-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x1024 : Shape := ⟨2, ![2, 1024]⟩
abbrev S256x1024 : Shape := ⟨2, ![256, 1024]⟩
abbrev S3x2x1024 : Shape := ⟨3, ![3, 2, 1024]⟩
abbrev S3 : Shape := ⟨1, ![3]⟩
abbrev S_ : Shape := ⟨0, ![]⟩
abbrev S1024 : Shape := ⟨1, ![1024]⟩
abbrev S1x1024 : Shape := ⟨2, ![1, 1024]⟩
abbrev S1 : Shape := ⟨1, ![1]⟩
abbrev S1x2x1024 : Shape := ⟨3, ![1, 2, 1024]⟩
abbrev S1x1x1024 : Shape := ⟨3, ![1, 1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S3x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_19 : BitVec 32 := 0#32
  let v36 : BitVec 1 := Scalar.cmpi .eq arg0 c0_i32_19
  let v37 : BitVec 32 := Scalar.extui v36
  let c0_i32_20 : BitVec 32 := 0#32
  let v38 : BitVec 1 := Scalar.cmpi .ne v37 c0_i32_20
  v38

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v66 : BitVec 32 := Scalar.muli v24 c1_i32_29
  let v67 : BitVec 32 := Scalar.addi c0_i32_30 v66
  v67.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_32 : BitVec 32 := 1#32
  let v68 : BitVec 32 := Scalar.muli v13 c1_i32_32
  let v69 : BitVec 32 := Scalar.addi c0_i32_33 v68
  v69.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_35 : BitVec 32 := 1#32
  let v70 : BitVec 32 := Scalar.muli v35 c1_i32_35
  let v71 : BitVec 32 := Scalar.addi c0_i32_36 v70
  v71.toNat
def k0_cond4 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_27 : BitVec 32 := 0#32
  let v64 : BitVec 1 := Scalar.cmpi .ne v63 c0_i32_27
  v64

def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v69 : BitVec 32 := Scalar.muli v13 c1_i32_35
  let v70 : BitVec 32 := Scalar.addi c0_i32_36 v69
  v70.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v77 : BitVec 32 := Scalar.muli v24 c1_i32_42
  let v78 : BitVec 32 := Scalar.addi c0_i32_43 v77
  v78.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_49 : BitVec 32 := 1#32
  let v85 : BitVec 32 := Scalar.muli v35 c1_i32_49
  let v86 : BitVec 32 := Scalar.addi c0_i32_50 v85
  v86.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.IdealBuffers.lean ====
/-
The kernel's buffers and the contents they pass through.

Four devices each reduce their own rows, sixteen blocks of 256, to a pair of rows (the column maxima and the row
numbers they were found at), exchange the pairs, and merge the three pairs received into their own. This module
names the devices a pair goes to and comes from, the landing slots, and what every buffer holds at each point.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.ShloMosaic.ValueIdx (ix2 ix3 eq_ix2 eq_ix3 reshapeEquiv_ix2_1ab)
open Idealize.SL Idealize.SL.Sem

variable {F : FTy → Type} [FloatOps F]

/-! ## The devices: whom slot `s` is sent to and received from -/

set_option backward.proofsInPublic true in
/-- The device the transfer into slot `s` goes to: one up, one down, the one opposite. -/
def tgt (s : Fin 3) (c : Dev nD) : Dev nD :=
  ⟨(c.val + match s with | 0 => 1 | 1 => 3 | 2 => 2) % 4, Nat.mod_lt _ (by decide)⟩
set_option backward.proofsInPublic true in
/-- The device slot `s` is filled from. -/
def src (s : Fin 3) (c : Dev nD) : Dev nD :=
  ⟨(c.val + match s with | 0 => 3 | 1 => 1 | 2 => 2) % 4, Nat.mod_lt _ (by decide)⟩

theorem src_tgt (s : Fin 3) (c : Dev nD) : src s (tgt s c) = c := by revert s c; decide
theorem tgt_src (s : Fin 3) (c : Dev nD) : tgt s (src s c) = c := by revert s c; decide

/-- Slot `s`'s transfers permute the devices. -/
def move (s : Fin 3) : Dev nD ≃ Dev nD := ⟨tgt s, src s, src_tgt s, tgt_src s⟩

/-- The three entry signals go to the devices the slots are filled from; -/
theorem dev1_eq (c : Dev nD) (h) : (⟨k0_dev1 c, h⟩ : Dev nD) = src 0 c := Fin.ext (by revert c; decide)
theorem dev2_eq (c : Dev nD) (h) : (⟨k0_dev2 c, h⟩ : Dev nD) = src 1 c := Fin.ext (by revert c; decide)
theorem dev3_eq (c : Dev nD) (h) : (⟨k0_dev3 c, h⟩ : Dev nD) = src 2 c := Fin.ext (by revert c; decide)
/-- and the three transfers to the devices the slots go to. -/
theorem dev4_eq (c : Dev nD) (h) : (⟨k0_dev4 c, h⟩ : Dev nD) = tgt 0 c := Fin.ext (by revert c; decide)
theorem dev5_eq (c : Dev nD) (h) : (⟨k0_dev5 c, h⟩ : Dev nD) = tgt 1 c := Fin.ext (by revert c; decide)
theorem dev6_eq (c : Dev nD) (h) : (⟨k0_dev6 c, h⟩ : Dev nD) = tgt 2 c := Fin.ext (by revert c; decide)

/-! ## The buffers -/

abbrev xM : Memref sig .tc .vmem S256x1024 .f32 := Memref.whole cc0_stg0_0
abbrev oM : Memref sig .tc .vmem S2x1024 .f32 := Memref.whole cc0_stg1_0
abbrev accM : Memref sig .tc .vmem S2x1024 .f32 := Memref.whole cc0_scratch0
abbrev sendM : Memref sig .tc .vmem S2x1024 .f32 := Memref.whole cc0_scratch1
abbrev recvM : Memref sig .tc .vmem S3x2x1024 .f32 := Memref.whole cc0_scratch2

theorem slot_inb (s : Fin 3) : ∀ a, (![s.val, 0, 0] : Fin 3 → ℕ) a + S1x2x1024.size a ≤ S3x2x1024.size a := by
  revert s; decide

/-- Landing slot `s`: the `s`-th pair of rows of the receive buffer. -/
abbrev slotM (s : Fin 3) : Memref sig .tc .vmem S2x1024 .f32 :=
  (recvM.slice (Rect.unit (s := S3x2x1024) ![s.val, 0, 0] S1x2x1024.size (slot_inb s)) (fun _ => rfl)).squeeze S2x1024
    squeezes_S1x2x1024_S2x1024

/-- What one transfer credits its semaphores. -/
abbrev N : ℕ := (sendM : Memref sig .tc .vmem S2x1024 .f32).view.dmaCredit
theorem N_pos : 0 < N := View.dmaCredit_pos _ (by decide)
theorem slot_credit (s : Fin 3) : (slotM s).view.dmaCredit = N := rfl

/-- Slot `s`'s elements of the receive buffer: -/
abbrev slotSet (s : Fin 3) : Finset S3x2x1024.Idx := (slotM s).view.set

/-- Slot `s` is the receive buffer's elements of first coordinate `s`. -/
theorem mem_slot (s : Fin 3) (i : S3x2x1024.Idx) : Iff (i ∈ slotSet s) (i 0 = s) := by
  have h : slotSet s = (Rect.unit (s := S3x2x1024) ![s.val, 0, 0] S1x2x1024.size (slot_inb s)).set :=
    (View.set_reshape _ _).trans (View.set_slice_whole _ _)
  rw [h]
  refine (Rect.mem_set_unit (inb := slot_inb s)).trans ⟨fun h => Fin.ext ?_, fun h a => ?_⟩
  · have h0 := h 0
    simp only [Matrix.cons_val_zero] at h0
    have : S1x2x1024.size 0 = 1 := rfl
    omega
  · subst h
    fin_cases a
    · exact ⟨Nat.le_refl _, Nat.lt_succ_self _⟩
    · exact ⟨Nat.zero_le _, (i 1).isLt.trans_eq (Nat.zero_add _).symm⟩
    · exact ⟨Nat.zero_le _, (i 2).isLt.trans_eq (Nat.zero_add _).symm⟩

theorem slots_disjoint : ∀ s ∈ (Finset.univ : Finset (Fin 3)), ∀ s' ∈ (Finset.univ : Finset (Fin 3)), s ≠ s' →
    Disjoint (slotSet s) (slotSet s') := fun s _ s' _ h =>
  Finset.disjoint_left.mpr fun i hi hi' => h (((mem_slot s i).mp hi).symm.trans ((mem_slot s' i).mp hi'))

theorem slots_cover : (Finset.univ : Finset (Fin 3)).biUnion slotSet = Finset.univ :=
  Finset.eq_univ_iff_forall.mpr fun i => Finset.mem_biUnion.mpr ⟨i 0, Finset.mem_univ _, (mem_slot (i 0) i).mpr rfl⟩

/-- Element `j` of slot `s` is element `(s, j)` of the receive buffer. -/
theorem slot_emb (s : Fin 3) (j : S2x1024.Idx) : (slotM s).view.emb j = ix3 s (j 0) (j 1) := by
  have e : Shape.reshapeEquiv squeezes_S1x2x1024_S2x1024.numel_eq j = ix3 (⟨0, Nat.one_pos⟩ : Fin 1) (j 0) (j 1) :=
    (congrArg _ (eq_ix2 j)).trans (reshapeEquiv_ix2_1ab _ _ _)
  show (Rect.unit (s := S3x2x1024) ![s.val, 0, 0] S1x2x1024.size (slot_inb s)).emb
    (Shape.reshapeEquiv squeezes_S1x2x1024_S2x1024.numel_eq j) = ix3 s (j 0) (j 1)
  rw [e]
  funext a
  apply Fin.ext
  match a with
  | ⟨0, _⟩ => show s.val + 1 * 0 = s.val; omega
  | ⟨1, _⟩ => show 0 + 1 * (j 0).val = (j 0).val; omega
  | ⟨2, _⟩ => show 0 + 1 * (j 1).val = (j 1).val; omega

/-! ## Pairs of rows -/

/-- The two-row array with the first row `a` and the second row `b`; -/
def rows (a b : S1x1024.Idx → Elt F .f32) : S2x1024.Idx → Elt F .f32 :=
  fun i => if (i 0).val = 0 then a (ix2 0 (i 1)) else b (ix2 0 (i 1))
/-- and row `r` of a two-row array. -/
def rowOf (f : S2x1024.Idx → Elt F .f32) (r : Fin 2) : S1x1024.Idx → Elt F .f32 := fun j => f (ix2 r (j 1))

omit [FloatOps F] in
theorem rowOf_rows_zero (a b : S1x1024.Idx → Elt F .f32) : rowOf (rows a b) 0 = a := by
  funext j
  show a (ix2 0 (j 1)) = a j
  congr 1
  exact ((eq_ix2 j).trans (congrArg (fun x => ix2 x (j 1)) (Subsingleton.elim (α := Fin 1) (j 0) 0))).symm

omit [FloatOps F] in
theorem rowOf_rows_one (a b : S1x1024.Idx → Elt F .f32) : rowOf (rows a b) 1 = b := by
  funext j
  show b (ix2 0 (j 1)) = b j
  congr 1
  exact ((eq_ix2 j).trans (congrArg (fun x => ix2 x (j 1)) (Subsingleton.elim (α := Fin 1) (j 0) 0))).symm

abbrev row0 : Rect S2x1024 := Rect.unit (s := S2x1024) ![0, 0] S1x1024.size inb_S2x1024_S1x1024_0_0
abbrev row1 : Rect S2x1024 := Rect.unit (s := S2x1024) ![1, 0] S1x1024.size inb_S2x1024_S1x1024_1_0

theorem row0_emb (j : S1x1024.Idx) : row0.emb j = ix2 0 (j 1) := by
  funext a
  apply Fin.ext
  match a with
  | ⟨0, _⟩ => show 0 + 1 * (j 0).val = 0; have : (j 0).val < 1 := (j 0).isLt; omega
  | ⟨1, _⟩ => show 0 + 1 * (j 1).val = (j 1).val; omega
theorem row1_emb (j : S1x1024.Idx) : row1.emb j = ix2 1 (j 1) := by
  funext a
  apply Fin.ext
  match a with
  | ⟨0, _⟩ => show 1 + 1 * (j 0).val = 1; have : (j 0).val < 1 := (j 0).isLt; omega
  | ⟨1, _⟩ => show 0 + 1 * (j 1).val = (j 1).val; omega

variable {M : Memref sig .tc .vmem S2x1024 .f32}

omit [FloatOps F] in
/-- A load of the first row of a two-row buffer reads its first row; -/
theorem readAt_row0 (f : M.view.ty.Contents (Elt F)) :
    M.view.readAt (Elt F) row0.toLoadRect f = rowOf (M.view.read (Elt F) f) 0 := by
  funext j
  show M.view.read (Elt F) f (row0.emb j) = _
  rw [row0_emb]; rfl
omit [FloatOps F] in
/-- of the second, its second. -/
theorem readAt_row1 (f : M.view.ty.Contents (Elt F)) :
    M.view.readAt (Elt F) row1.toLoadRect f = rowOf (M.view.read (Elt F) f) 1 := by
  funext j
  show M.view.read (Elt F) f (row1.emb j) = _
  rw [row1_emb]; rfl

omit [FloatOps F] in
/-- After a store through a rectangle the rectangle's elements are the stored ones; -/
theorem read_store_emb (r : Rect S2x1024) (f : M.view.ty.Contents (Elt F)) (w : r.shape.Idx → Elt F .f32) (j : r.shape.Idx) :
    M.view.read (Elt F) ((M.access r).write (Elt F) f w Finset.univ) (r.emb j) = w j :=
  View.read_write_of_mem (v := M.access r) f w (Finset.mem_univ j)
omit [FloatOps F] in
/-- the others are as before. -/
theorem read_store_off (r : Rect S2x1024) (f : M.view.ty.Contents (Elt F)) (w : r.shape.Idx → Elt F .f32) (i : S2x1024.Idx)
    (h : ∀ j, r.emb j ≠ i) :
    M.view.read (Elt F) ((M.access r).write (Elt F) f w Finset.univ) i = M.view.read (Elt F) f i := by
  rw [View.read_apply, View.read_apply, View.write_of_not_mem]
  intro hi
  obtain ⟨j, -, e⟩ := Finset.mem_map.mp hi
  exact h j (M.view.emb.injective e)

omit [FloatOps F] in
/-- A store to the first row keeps the second; -/
theorem read_store_row0 (f : M.view.ty.Contents (Elt F)) (w : S1x1024.Idx → Elt F .f32) :
    M.view.read (Elt F) ((M.access row0).write (Elt F) f w Finset.univ) = rows w (rowOf (M.view.read (Elt F) f) 1) := by
  funext i
  unfold rows
  by_cases h : (i 0).val = 0
  · have e : i = row0.emb (ix2 0 (i 1)) := by
      rw [row0_emb]
      exact (eq_ix2 i).trans (congrArg (fun x => ix2 x (i 1)) (Fin.ext h))
    rw [if_pos h]
    conv_lhs => rw [e]
    exact read_store_emb row0 f w _
  · rw [if_neg h, read_store_off row0 f w i fun j e => h (by rw [← e, row0_emb]; rfl)]
    show _ = M.view.read (Elt F) f (ix2 1 (i 1))
    congr 1
    have := (i 0).isLt
    exact (eq_ix2 i).trans (congrArg (fun x => ix2 x (i 1)) (Fin.ext (show (i 0).val = 1 by have : (i 0).val < 2 := (i 0).isLt; omega)))
omit [FloatOps F] in
/-- to the second, the first. -/
theorem read_store_row1 (f : M.view.ty.Contents (Elt F)) (w : S1x1024.Idx → Elt F .f32) :
    M.view.read (Elt F) ((M.access row1).write (Elt F) f w Finset.univ) = rows (rowOf (M.view.read (Elt F) f) 0) w := by
  funext i
  unfold rows
  by_cases h : (i 0).val = 0
  · rw [if_pos h, read_store_off row1 f w i fun j e => absurd (show 1 = 0 from by rw [← e, row1_emb] at h; exact h) (by decide)]
    show _ = M.view.read (Elt F) f (ix2 0 (i 1))
    congr 1
    exact (eq_ix2 i).trans (congrArg (fun x => ix2 x (i 1)) (Fin.ext h))
  · have e : i = row1.emb (ix2 0 (i 1)) := by
      rw [row1_emb]
      exact (eq_ix2 i).trans (congrArg (fun x => ix2 x (i 1)) (Fin.ext (show (i 0).val = 1 by have : (i 0).val < 2 := (i 0).isLt; omega)))
    rw [if_neg h]
    conv_lhs => rw [e]
    exact read_store_emb row1 f w _

omit [FloatOps F] in
/-- Both rows stored. -/
theorem read_store_rows (f : M.view.ty.Contents (Elt F)) (a b : S1x1024.Idx → Elt F .f32) :
    M.view.read (Elt F) ((M.access row1).write (Elt F) ((M.access row0).write (Elt F) f a Finset.univ) b Finset.univ) = rows a b := by
  rw [read_store_row1, read_store_row0, rowOf_rows_zero]

/-! ## What the buffers hold, on device `c` -/

variable (m : (ℓ : Loc nD τ sig) → Buf (Elt F) ℓ)

theorem blk_lt (n : ℕ) : n % 16 < cfg0.N := (Nat.mod_lt _ (by decide)).trans_eq N_0.symm

/-- Block `n` of device `c`'s rows; -/
def xb (c : Dev nD) (n : ℕ) : S256x1024.Idx → Elt F .f32 := iblk m c 0 ⟨n % 16, blk_lt n⟩
omit [FloatOps F] in
theorem xb_val (c : Dev nD) (t : Fin cfg0.N) : xb m c t.val = iblk m c 0 t := by
  unfold xb
  congr 1
  exact Fin.ext (Nat.mod_eq_of_lt (t.isLt.trans_eq N_0))

/-- its place among the devices, as the kernel computes it; -/
def wd (c : Dev nD) : BitVec 32 := Scalar.remsi (Scalar.divsi (Dev.word c) 1#32) 4#32

/-- the maxima and their row numbers after blocks `0 … n`; -/
def accAt (c : Dev nD) : ℕ → (S1x1024.Idx → Elt F .f32) × (S1x1024.Idx → Elt F .f32)
  | 0 => (k0_pay4 (xb m c 0), k0_pay5 (BitVec.ofNat 32 0) (wd c) (xb m c 0))
  | n + 1 => (k0_pay7 (xb m c (n + 1)) (accAt c n).1 (accAt c n).1,
      k0_pay8 (BitVec.ofNat 32 (n + 1)) (wd c) (xb m c (n + 1)) (accAt c n).1 (accAt c n).2)

/-- the two as the accumulator holds them; -/
def accRows (c : Dev nD) (n : ℕ) : S2x1024.Idx → Elt F .f32 := rows (accAt m c n).1 (accAt m c n).2

/-- what is sent, all blocks done; -/
def sent (c : Dev nD) : S2x1024.Idx → Elt F .f32 := k0_pay13 (accRows m c 15)

/-- the receive buffer, every slot landed; -/
def landed (c : Dev nD) : S3x2x1024.Idx → Elt F .f32 := fun i => sent m (src (i 0) c) (ix2 (i 1) (i 2))

/-- row `r` of slot `s` as the kernel loads it; -/
def got (c : Dev nD) (s : Fin 3) (r : Fin 2) : S1x1x1024.Idx → Elt F .f32 := fun j => sent m (src s c) (ix2 r (j 2))

/-- and the result: the device's own pair merged with the three received. -/
def outA (c : Dev nD) : FVec F S1x1024 .f32 :=
  k0_pay22 (accAt m c 15).1 (accAt m c 15).2 (got m c 0 0) (got m c 0 1) (got m c 1 0) (got m c 1 1)
def outB (c : Dev nD) : FVec F S1x1024 .f32 :=
  k0_pay23 (accAt m c 15).1 (accAt m c 15).2 (got m c 0 0) (got m c 0 1) (got m c 1 0) (got m c 1 1)
def outAt (c : Dev nD) : S2x1024.Idx → Elt F .f32 :=
  rows (k0_pay11 (outA m c) (outB m c) (k0_pay24 (got m c 2 0)) (got m c 2 1))
    (k0_pay12 (outA m c) (outB m c) (k0_pay24 (got m c 2 0)) (got m c 2 1))

/-- A load of row `r` of slot `s` of the landed receive buffer. -/
theorem read_landed (c : Dev nD) (s : Fin 3) (r : Fin 2) (off : Fin 3 → ℕ) (inb) (h : off = ![s.val, r.val, 0]) :
    (recvM : Memref sig .tc .vmem S3x2x1024 .f32).view.readAt (Elt F)
      (Rect.unit (s := S3x2x1024) off S1x1x1024.size inb).toLoadRect (landed m c) = got m c s r := by
  subst h
  funext j
  show landed m c ((Rect.unit (s := S3x2x1024) ![s.val, r.val, 0] S1x1x1024.size inb).emb j) = _
  have e : (Rect.unit (s := S3x2x1024) ![s.val, r.val, 0] S1x1x1024.size inb).emb j = ix3 s r (j 2) := by
    funext a
    apply Fin.ext
    match a with
    | ⟨0, _⟩ => show s.val + 1 * (j 0).val = s.val; have : (j 0).val < 1 := (j 0).isLt; omega
    | ⟨1, _⟩ => show r.val + 1 * (j 1).val = r.val; have : (j 1).val < 1 := (j 1).isLt; omega
    | ⟨2, _⟩ => show 0 + 1 * (j 2).val = (j 2).val; omega
  rw [e]; rfl

/-- A transfer of what device `src s c` sends into slot `s` leaves there what `landed` says. -/
theorem write_slot (c : Dev nD) (s : Fin 3) (fd : S3x2x1024.Idx → Elt F .f32) (i : S3x2x1024.Idx)
    (hi : i ∈ slotSet s) :
    (slotM s).view.write (Elt F) fd ((sendM : Memref sig .tc .vmem S2x1024 .f32).view.read (Elt F) (sent m (src s c))) Finset.univ i
      = landed m c i := by
  obtain ⟨j, -, e⟩ := Finset.mem_map.mp hi
  rw [← e, View.write_emb_of_mem _ _ (Finset.mem_univ j)]
  rw [slot_emb]
  exact congrArg (sent m (src s c)) (eq_ix2 j)

end Cert.KernelIdeal.Run

end
-- ==== Proof.IdealProtocol.lean ====
/-
How the four devices synchronise, and the rule for each of a device's steps on a shared semaphore.

Per device seven semaphores are shared:

* the barrier. Device `c` waits for three units at its first block. One comes from each other device: the device slot
  `s` of `c` is sent to, `tgt s c`, signals `c` and with that hands over its landing slot `s`, which `c` will fill;
* for each slot `s` a send semaphore, credited at `c` when `c`'s transfer into `tgt s c` has been read out of `c`'s
  send buffer; it hands back the third of the send buffer the transfer was reading;
* for each slot `s` a receive semaphore, credited at `c` when slot `s` of `c` is filled by `src s c`; it hands over that
  slot, holding what `src s c` sent.

Every semaphore is used for a single round and is at zero when the kernel returns. A wait on the barrier comes before
every wait on a receive semaphore, and the waits on staging and send semaphores depend on no other device, so no cycle
of devices waits.
-/
module

public import proofs.«01_k».proof.Proof.IdealBuffers

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The shared semaphores -/

abbrev barS : Sem sig := (SemArray.scalar (sig.barrier 0 rfl) : Sems sig S_).sem
def sendS (s : Fin 3) : DmaSem sig := ⟨3 + s.val, by show 3 + s.val < 9; omega⟩
def recvS (s : Fin 3) : DmaSem sig := ⟨6 + s.val, by show 6 + s.val < 9; omega⟩

abbrev barCell (c : Dev nD) : GSem nD τ sig := ((c : Thread nD τ), .reg barS)
abbrev sendCell (s : Fin 3) (c : Dev nD) : GSem nD τ sig := ((c : Thread nD τ), .dma (sendS s))
abbrev recvCell (s : Fin 3) (c : Dev nD) : GSem nD τ sig := ((c : Thread nD τ), .dma (recvS s))

/-- Which slot a transfer semaphore serves, and whether it is the receive side's. -/
def slotOf (q : DmaSem sig) : Option (Bool × Fin 3) :=
  if h : 3 ≤ q.val ∧ q.val < 6 then some (false, ⟨q.val - 3, by omega⟩)
  else if h : 6 ≤ q.val ∧ q.val < 9 then some (true, ⟨q.val - 6, by omega⟩)
  else none

theorem slotOf_send (s : Fin 3) : slotOf (sendS s) = some (false, s) := by revert s; decide
theorem slotOf_recv (s : Fin 3) : slotOf (recvS s) = some (true, s) := by revert s; decide

/-! ## What is handed over -/

/-- Slot `s` of device `c`'s receive buffer, holding `f` there. -/
def slotPts (c : Dev nD) (s : Fin 3) (f : S3x2x1024.Idx → Elt F .f32) : sProp 𝕄 :=
  (slotM s).view.loc (c : Thread nD τ) ↦[(slotM s).view.set]{fullShare} (f : Buf (Elt F) ((slotM s).view.loc (c : Thread nD τ)))
/-- Share `q` of device `c`'s send buffer, holding what it sends. -/
def sendPts (c : Dev nD) (q : PosShare TreeShare) : sProp 𝕄 :=
  (sendM : Memref sig .tc .vmem S2x1024 .f32).view.loc (c : Thread nD τ)
    ↦[(sendM : Memref sig .tc .vmem S2x1024 .f32).view.set]{q} (sent m c : Buf (Elt F) ((sendM : Memref sig .tc .vmem S2x1024 .f32).view.loc (c : Thread nD τ)))

def barPay (c : Dev nD) (s : Fin 3) : sProp 𝕄 := iprop((∃ f, slotPts (tgt s c) s f) ∗ reached ER (recvCell s (tgt s c)) 0)
def sendPay (c : Dev nD) (s : Fin 3) : sProp 𝕄 := sendPts m c (shareTok fullShare 3 s)
def recvPay (c : Dev nD) (s : Fin 3) : sProp 𝕄 := slotPts c s (landed m c)

instance slotPts_storable (c : Dev nD) (s : Fin 3) (f) : BI.Storable (upEmb : UEmb _ 𝕄) (slotPts (F := F) c s f) := by
  unfold slotPts; infer_instance
instance sendPts_storable (c : Dev nD) (q) : BI.Storable (upEmb : UEmb _ 𝕄) (sendPts (F := F) m c q) := by unfold sendPts; infer_instance

/-! ## The schedule: one round, round 0 -/

/-- A barrier cell takes a unit of each of the three senders; a transfer cell one transfer's credit. -/
def rd : Rounds.Schedule (GSem nD τ sig) (Fin 3) 𝕄 where
  duties g r := if r = 0 ∧ g.1.2 = .tc then
      (match g.2 with
        | .reg _ => Finset.univ
        | .dma q => match slotOf q with
          | some _ => {0}
          | none => ∅)
    else ∅
  unitless _ := False
  amount g _ _ := match g.2 with
    | .reg _ => 1
    | .dma _ => N
  payload g _ d := match g.2 with
    | .reg _ => barPay g.1.1 d
    | .dma q => match slotOf q with
      | some (false, s) => sendPay m g.1.1 s
      | some (true, s) => recvPay m g.1.1 s
      | none => iprop(emp)
  amount_pos g _ _ _ := by
    cases g.2
    · exact Nat.one_pos
    · exact N_pos

instance rd_payload_storable (g : GSem nD τ sig) (r : ℕ) (d : Fin 3) :
    BI.Storable (upEmb : UEmb _ 𝕄) ((rd (F := F) m).payload g r d) := by
  dsimp only [rd]
  unfold barPay sendPay recvPay
  (repeat' split) <;> infer_instance

section Sched
variable (c : Dev nD) (s : Fin 3)

theorem duties_bar : (rd (F := F) m).duties (barCell c) 0 = Finset.univ := by dsimp only [rd]; exact if_pos ⟨rfl, rfl⟩
theorem duties_send : (rd (F := F) m).duties (sendCell s c) 0 = {0} := by
  dsimp only [rd]; rw [if_pos ⟨rfl, rfl⟩, slotOf_send]
theorem duties_recv : (rd (F := F) m).duties (recvCell s c) 0 = {0} := by
  dsimp only [rd]; rw [if_pos ⟨rfl, rfl⟩, slotOf_recv]
theorem duties_later (g : GSem nD τ sig) : ∀ r, 1 ≤ r → (rd (F := F) m).duties g r = ∅ :=
  fun r hr => by dsimp only [rd]; rw [if_neg fun h => by omega]

theorem amount_bar (d : Fin 3) : (rd (F := F) m).amount (barCell c) 0 d = 1 := rfl
theorem amount_send (d : Fin 3) : (rd (F := F) m).amount (sendCell s c) 0 d = N := rfl
theorem amount_recv (d : Fin 3) : (rd (F := F) m).amount (recvCell s c) 0 d = N := rfl

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell s c) 0 = N := by
  unfold Schedule.expect Schedule.amountOf; rw [duties_send, Finset.sum_singleton, amount_send]
theorem expect_recv : (rd (F := F) m).expect (recvCell s c) 0 = N := by
  unfold Schedule.expect Schedule.amountOf; rw [duties_recv, Finset.sum_singleton, amount_recv]

theorem payload_bar (d : Fin 3) : (rd (F := F) m).payload (barCell c) 0 d = barPay c d := rfl
theorem payload_send (d : Fin 3) : (rd (F := F) m).payload (sendCell s c) 0 d = sendPay m c s := by
  dsimp only [rd]; rw [slotOf_send]
theorem payload_recv (d : Fin 3) : (rd (F := F) m).payload (recvCell s c) 0 d = recvPay m c s := by
  dsimp only [rd]; rw [slotOf_recv]

omit [FloatOps F] in
theorem bigSep_slots (Φ : Fin 3 → sProp 𝕄) : bigSep Finset.univ Φ = iprop(Φ 0 ∗ Φ 1 ∗ Φ 2) :=
  bigSep_univ_eq_bigSepL [0, 1, 2] (by decide) (by decide) Φ

theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_slots]; rfl
theorem rest_send : bigSep ((rd (F := F) m).duties (sendCell s c) 0 \ ∅) (fun d => (rd (F := F) m).payload (sendCell s c) 0 d) = sendPay m c s := by
  rw [Finset.sdiff_empty, duties_send, bigSep_singleton, payload_send]
theorem rest_recv : bigSep ((rd (F := F) m).duties (recvCell s c) 0 \ ∅) (fun d => (rd (F := F) m).payload (recvCell s c) 0 d) = recvPay m c s := by
  rw [Finset.sdiff_empty, duties_recv, bigSep_singleton, payload_recv]

end Sched

/-! ## What a device owes, and the order of the waits -/

def owesRecv (s : Fin 3) (c : Dev nD) : CellTallies nD τ sig Unit := tallyAt (recvCell s (tgt s c)) () N
def owesBar (s : Fin 3) (c : Dev nD) : CellTallies nD τ sig Unit := tallyAt (barCell (src s c)) () 1

/-- A device owes each receive semaphore it fills a transfer's credit — summed in the order it pays them, last first; -/
def owed2 (c : Dev nD) : CellTallies nD τ sig Unit := 0 + owesRecv 2 c
def owed1 (c : Dev nD) : CellTallies nD τ sig Unit := owed2 c + owesRecv 1 c
def owed0 (c : Dev nD) : CellTallies nD τ sig Unit := owed1 c + owesRecv 0 c
/-- and before its first block also each barrier it signals one unit. -/
def O2 (c : Dev nD) : CellTallies nD τ sig Unit := owed0 c + owesBar 2 c
def O1 (c : Dev nD) : CellTallies nD τ sig Unit := O2 c + owesBar 1 c
def O₀ (c : Dev nD) : CellTallies nD τ sig Unit := O1 c + owesBar 0 c

def L (g : GSem nD τ sig) : Finset Unit := if g.1.2 = .tc then {()} else ∅
/-- Staging and send semaphores first, barriers next, receive semaphores last. -/
def lv (g : GSem nD τ sig) (_ : Unit) : ℕ := match g.2 with
  | .reg _ => 1
  | .dma q => if 6 ≤ q.val then 2 else 0

theorem L_of_ne (g : GSem nD τ sig) (h : g.1.2 ≠ .tc) : L g = ∅ := if_neg h
theorem L_tc (g : GSem nD τ sig) (h : g.1.2 = .tc) : L g = {()} := if_pos h

/-- Everything owed in `O` comes later than level `n`. -/
def Later (n : ℕ) (O : CellTallies nD τ sig Unit) : Prop := ∀ g u, 0 < O g u → g.1.2 = .tc ∧ n < lv g u

theorem Later.zero (n : ℕ) : Later n 0 := fun g u h => absurd h (Nat.lt_irrefl 0)
theorem Later.add {n : ℕ} {A B : CellTallies nD τ sig Unit} (hA : Later n A) (hB : Later n B) : Later n (A + B) := fun g u h => by
  rw [Pi.add_apply, Finsupp.add_apply] at h
  rcases Nat.eq_zero_or_pos (A g u) with h0 | h0
  · exact hB g u (by omega)
  · exact hA g u h0
theorem Later.tally {n k : ℕ} {g : GSem nD τ sig} (h : g.1.2 = .tc) (hl : n < lv g ()) : Later n (tallyAt g () k) := fun g' u h' => by
  rw [tallyAt_apply] at h'
  by_cases e : g' = g ∧ u = ()
  · rw [e.1]; exact ⟨h, hl⟩
  · rw [if_neg e] at h'; exact absurd h' (Nat.lt_irrefl 0)

theorem lv_recv (s : Fin 3) (c : Dev nD) : lv (recvCell s c) () = 2 := if_pos (Nat.le_add_right 6 s.val)
theorem lv_bar (c : Dev nD) : lv (barCell c) () = 1 := rfl

theorem later_recv (s : Fin 3) (c : Dev nD) : Later 1 (owesRecv s c) := Later.tally rfl (by rw [lv_recv]; decide)
theorem later_bar (s : Fin 3) (c : Dev nD) : Later 0 (owesBar s c) := Later.tally rfl (by rw [lv_bar]; decide)
theorem Later.mono {n n' : ℕ} (h : n ≤ n') {O : CellTallies nD τ sig Unit} (hO : Later n' O) : Later n O :=
  fun g u hg => ⟨(hO g u hg).1, Nat.lt_of_le_of_lt h (hO g u hg).2⟩
theorem later_owed0 (c : Dev nD) : Later 1 (owed0 c) :=
  (((Later.zero 1).add (later_recv 2 c)).add (later_recv 1 c)).add (later_recv 0 c)
theorem later_O₀ (c : Dev nD) : Later 0 (O₀ c) :=
  ((((later_owed0 c).mono (Nat.zero_le 1)).add (later_bar 2 c)).add (later_bar 1 c)).add (later_bar 0 c)

omit [FloatOps F] in
/-- A device may wait on a semaphore while all it owes comes later. -/
theorem mayWait_of_later (c : Dev nD) (sm : SemLoc sig) (n : ℕ) (hn : lv ((c : Thread nD τ), sm) () ≤ n) (O : CellTallies nD τ sig Unit) (hO : Later n O) :
    (levAts L lv : sProp 𝕄) ⊢ MayWait (c : Thread nD τ) sm () O :=
  MayOwe.of_cut (L := L) (lev := lv) n (fun p hp => by rw [Finset.mem_singleton.mp hp, L_tc _ rfl]; exact Finset.mem_singleton_self _)
    (fun g u hg => by rw [L_tc g (hO g u hg).1]; exact Finset.mem_singleton_self _)
    (fun p hp => by rw [Finset.mem_singleton.mp hp]; exact hn)
    (fun g u hg => (hO g u hg).2)

/-! ## The invariants of all seven cells of all devices -/

/-- The shared semaphores in a row: the barrier, the three send, the three receive. -/
def csem (k : Fin 7) : SemLoc sig := if k = 0 then .reg barS else .dma ⟨k.val + 2, by show k.val + 2 < 9; omega⟩
def kSend (s : Fin 3) : Fin 7 := ⟨1 + s.val, by omega⟩
def kRecv (s : Fin 3) : Fin 7 := ⟨4 + s.val, by omega⟩
theorem csem_bar : csem 0 = .reg barS := rfl
theorem csem_send (s : Fin 3) : csem (kSend s) = .dma (sendS s) := by revert s; decide
theorem csem_recv (s : Fin 3) : csem (kRecv s) = .dma (recvS s) := by revert s; decide

abbrev kcell (ck : Dev nD × Fin 7) : GSem nD τ sig := ((ck.1 : Thread nD τ), csem ck.2)

/-- All the cells' invariants, at the names `K`, and that all have reached round 0. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

instance records_persistent (K : Dev nD × Fin 7 → ℕ) : BI.Persistent (records m K) := by unfold records; infer_instance

variable (K : Dev nD × Fin 7 → ℕ)

theorem records_inv (ck : Dev nD × Fin 7) : records m K ⊢ cellInv ER (rd m) (K ck) (kcell ck) := by
  unfold records; exact sep_elim_left.trans (bigSep_elim (Finset.mem_univ ck) (Φ := fun ck : Dev nD × Fin 7 => (cellInv ER (rd m) (K ck) (kcell ck) : sProp 𝕄)))
theorem records_reached (ck : Dev nD × Fin 7) : records m K ⊢ reached ER (kcell ck) 0 := by
  unfold records; exact sep_elim_right.trans (bigSep_elim (Finset.mem_univ ck) (Φ := fun ck : Dev nD × Fin 7 => (reached ER (kcell ck) 0 : sProp 𝕄)))

theorem inv_bar (c : Dev nD) : records m K ⊢ cellInv ER (rd m) (K (c, 0)) (barCell c) := records_inv m K (c, 0)
theorem inv_send (s : Fin 3) (c : Dev nD) : records m K ⊢ cellInv ER (rd m) (K (c, kSend s)) (sendCell s c) := by
  have h := records_inv m K (c, kSend s); unfold kcell at h; rwa [csem_send] at h
theorem inv_recv (s : Fin 3) (c : Dev nD) : records m K ⊢ cellInv ER (rd m) (K (c, kRecv s)) (recvCell s c) := by
  have h := records_inv m K (c, kRecv s); unfold kcell at h; rwa [csem_recv] at h
theorem reached_bar (c : Dev nD) : records m K ⊢ reached ER (barCell c) 0 := records_reached m K (c, 0)
theorem reached_send (s : Fin 3) (c : Dev nD) : records m K ⊢ reached ER (sendCell s c) 0 := by
  have h := records_reached m K (c, kSend s); unfold kcell at h; rwa [csem_send] at h
theorem reached_recv (s : Fin 3) (c : Dev nD) : records m K ⊢ reached ER (recvCell s c) 0 := by
  have h := records_reached m K (c, kRecv s); unfold kcell at h; rwa [csem_recv] at h

/-! ## The steps -/

section Steps
/-- The entry signal for slot `s`: to the device that will fill it, with the slot. -/
theorem wp_signal_slot {α : Type} {Q : α → sProp 𝕄}
    {k : PUnit → Prog (TpuEff nD τ sig (Elt F) Λ₀ .tc) α} (W : Waits sig Unit) (s : Fin 3) (c n : Dev nD) (hn : n = src s c) (O : CellTallies nD τ sig Unit) :
    iprop(records m K ∗ owes (c : Thread nD τ) (O + owesBar s c) W ∗ dutyTok ER (barCell (src s c)) 0 s ∗ (∃ f, slotPts c s f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32).toInt) k) Q) := by
  subst hn
  iintro ⟨#HR, HO, Ht, Hs⟩
  iapply (Rounds.wp_signal 𝒱₀ ER (rd m) (c : Thread nD τ) none (dst := (src s c : Thread nD τ)) (κ := K (src s c, 0))
    (d := s) (by rw [duties_bar]; exact Finset.mem_univ _) (amount_bar m (src s c) s) () O rfl)
  isplitr; · iapply (inv_bar m K (src s c)); iexact HR
  isplitl [HO]; · iexact HO
  isplitl [Ht]; · iexact Ht
  isplitl [Hs]
  · rw [payload_bar]; unfold barPay; rw [tgt_src]
    isplitl [Hs]; · iexact Hs
    iapply (reached_recv m K s c); iexact HR
  iapply (reached_bar m K (src s c)); iexact HR

/-- The wait at the barrier: the three slots to fill come with it. -/
theorem wp_wait_bar {α : Type} {Q : α → sProp 𝕄}
    {k : PUnit → Prog (TpuEff nD τ sig (Elt F) Λ₀ .tc) α} (W : Waits sig Unit) (c : Dev nD) :
    iprop(records m K ∗ cred (tallyAt (barCell c) () 3) ∗ owes (c : Thread nD τ) (owed0 c) W ∗ levAts L lv ∗ atPos ER (barCell c) 0 ∅ 0)
      ⊢ iprop(((owes (c : Thread nD τ) (owed0 c) (insert (SemLoc.reg barS, ()) W) ∗ atPos ER (barCell c) (0 + 1) ∅ 0
              ∗ (∃ f, slotPts (tgt 0 c) 0 f) ∗ (∃ f, slotPts (tgt 1 c) 1 f) ∗ (∃ f, slotPts (tgt 2 c) 2 f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  iintro ⟨#HR, Hc, HO, #Hlev, Hat⟩ Hk
  iapply (Rounds.wp_wait_rest_token 𝒱₀ ER (rd m) (c : Thread nD τ) none (κ := K (c, 0))
      (wpE_semWait_eq 𝒱₀ (c : Thread nD τ) none Set.univ) (Set.mem_univ _) () (O := owed0 c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_of_later c (.reg barS) 1 (Nat.le_refl 1) _ (later_owed0 c)); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  iapply Hk
  isplitl [HO]; · iexact HO
  isplitl [Hat]; · iexact Hat
  isplitl [H0]; · iexact H0
  isplitl [H1]; · iexact H1
  iexact H2

/-- What the slot written by that transfer holds. -/
theorem slot_landed (s : Fin 3) (c : Dev nD) (fd : S3x2x1024.Idx → Elt F .f32) :
    ((slotM s).view.loc (tgt s c : Thread nD τ) ↦[(slotM s).view.set]{fullShare}
        ((slotM s).view.write (Elt F) fd ((sendM : Memref sig .tc .vmem S2x1024 .f32).view.read (Elt F) (sent m c)) Finset.univ
          : Buf (Elt F) ((slotM s).view.loc (tgt s c : Thread nD τ))) : sProp 𝕄)
      ⊢ (rd (F := F) m).payload (recvCell s (tgt s c)) 0 0 := by
  rw [payload_recv]; unfold recvPay slotPts
  refine Entails.of_eq (pointsTo_congr fun i hi => ?_)
  have h := write_slot m (tgt s c) s fd i hi
  rw [src_tgt] at h
  exact h

/-- The transfer into slot `s` of `tgt s c`, out of a third of the send buffer. -/
theorem wp_send_slot0 {α : Type} {Q : α → sProp 𝕄}
    {k : PUnit → Prog (TpuEff nD τ sig (Elt F) Λ₀ .tc) α} (W : Waits sig Unit) (s : Fin 3) (c : Dev nD)
    {hsc : (slotM s : Memref sig (Dev.tc (tgt s c) : Thread nD τ).2.kind .vmem S2x1024 .f32).view.ref.isScScratch = false}
    {hsrc : (sendM : Memref sig .tc .vmem S2x1024 .f32).view.WordExact} {hdst : (slotM s).view.WordExact}
    {hsem : DmaTarget.Typed .vmem (.dma (recvS s)) (.remote (Dev.tc (tgt s c) : Thread nD τ) (slotM s) (.dma (sendS s)) hsc)}
    (O : CellTallies nD τ sig Unit) (fd : S3x2x1024.Idx → Elt F .f32) :
    iprop(cellInv ER (rd m) (K (c, kSend s)) (sendCell s c) ∗ cellInv ER (rd m) (K (tgt s c, kRecv s)) (recvCell s (tgt s c))
        ∗ sendPts m c (shareTok fullShare 3 s) ∗ slotPts (tgt s c) s fd
        ∗ owes (c : Thread nD τ) (O + owesRecv s c) W ∗ dutyTok ER (sendCell s c) 0 0 ∗ reached ER (sendCell s c) 0
        ∗ dutyTok ER (recvCell s (tgt s c)) 0 0 ∗ reached ER (recvCell s (tgt s c)) 0)
      ⊢ iprop(((cred (tallyAt (sendCell s c) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc (tgt s c) : Thread nD τ) (slotM s) (.dma (sendS s)) hsc) (.dma (recvS s)) hsrc hdst hsem) k) Q) := by
  unfold sendPts slotPts
  exact Rounds.wp_send_pointsTo 𝒱₀ ER (rd m) (c : Thread nD τ) none (κ₁ := K (c, kSend s)) (κ₂ := K (tgt s c, kRecv s))
    (c' := (tgt s c : Thread nD τ)) (src := sendM) (dst := slotM s) (sS := .dma (sendS s)) (sem := .dma (recvS s))
    (r₁ := 0) (r₂ := 0) (d₁ := 0) (d₂ := 0) (fd := fd) (fs := sent m c) (q := shareTok fullShare 3 s)
    (by rw [duties_send]; exact Finset.mem_singleton_self _) (by rw [duties_recv]; exact Finset.mem_singleton_self _)
    () () N (slot_credit s) (amount_send m c s 0) (amount_recv m (tgt s c) s 0) O rfl (W := W)
    (by rw [payload_send]; exact BI.Entails.refl _) (by exact slot_landed m s c fd)

theorem wp_send_slot {α : Type} {Q : α → sProp 𝕄}
    {k : PUnit → Prog (TpuEff nD τ sig (Elt F) Λ₀ .tc) α} (W : Waits sig Unit) (s : Fin 3) (c n : Dev nD) (hn : n = tgt s c) (sS rS : DmaSem sig) (hsS : sS = sendS s) (hrS : rS = recvS s)
    {hsc : (slotM s : Memref sig (Dev.tc n : Thread nD τ).2.kind .vmem S2x1024 .f32).view.ref.isScScratch = false}
    {hsrc : (sendM : Memref sig .tc .vmem S2x1024 .f32).view.WordExact} {hdst : (slotM s).view.WordExact}
    {hsem : DmaTarget.Typed .vmem (.dma rS) (.remote (Dev.tc n : Thread nD τ) (slotM s) (.dma sS) hsc)}
    (O : CellTallies nD τ sig Unit) :
    iprop(records m K ∗ sendPts m c (shareTok fullShare 3 s) ∗ (∃ f, slotPts (tgt s c) s f)
        ∗ owes (c : Thread nD τ) (O + owesRecv s c) W ∗ dutyTok ER (sendCell s c) 0 0 ∗ dutyTok ER (recvCell s (tgt s c)) 0 0)
      ⊢ iprop(((cred (tallyAt (sendCell s c) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc n : Thread nD τ) (slotM s) (.dma sS) hsc) (.dma rS) hsrc hdst hsem) k) Q) := by
  subst hn hsS hrS
  iintro ⟨#HR, Hsrc, ⟨%fd, Hdst⟩, HO, HtS, HtR⟩
  iapply (wp_send_slot0 m K W s c O fd)
  isplitr; · iapply (inv_send m K s c); iexact HR
  isplitr; · iapply (inv_recv m K s (tgt s c)); iexact HR
  isplitl [Hsrc]; · iexact Hsrc
  isplitl [Hdst]; · iexact Hdst
  isplitl [HO]; · iexact HO
  isplitl [HtS]; · iexact HtS
  isplitr; · iapply (reached_send m K s c); iexact HR
  isplitl [HtR]; · iexact HtR
  iapply (reached_recv m K s (tgt s c)); iexact HR

/-- The wait for that transfer to have been read out: the third of the send buffer comes back. -/
theorem wp_wait_send {α : Type} {Q : α → sProp 𝕄}
    {k : PUnit → Prog (TpuEff nD τ sig (Elt F) Λ₀ .tc) α} (W : Waits sig Unit) (s : Fin 3) (c : Dev nD) (sS : DmaSem sig) (hsS : sS = sendS s)
    {sM : Memref sig .tc .vmem S2x1024 .f32} {hsrc : sM.view.WordExact} {hdst : (sendM : Memref sig .tc .vmem S2x1024 .f32).view.WordExact} :
    iprop(records m K ∗ cred (tallyAt (sendCell s c) () N) ∗ owes (c : Thread nD τ) 0 W ∗ atPos ER (sendCell s c) 0 ∅ 0)
      ⊢ iprop(((∃ W', owes (c : Thread nD τ) 0 W') ∗ semVal (sendCell s c) 0 ∗ sendPts m c (shareTok fullShare 3 s)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS sM (sendM : Memref sig .tc .vmem S2x1024 .f32) hsrc hdst) k) Q) := by
  subst hsS
  iintro ⟨#HR, Hc, HO, Hat⟩ Hk
  iapply (Rounds.wp_wait_rest_token 𝒱₀ ER (rd m) (c : Thread nD τ) none (κ := K (c, kSend s))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K s c); iexact HR
    isplitl [Hc]; · iexact Hc
    isplitl [HO]; · iexact HO
    isplitr; · rw [MayWait_zero]; iempintro
    iexact Hat
  iintro ⟨HO, Hat, -, Hpay⟩
  ihave Hp := (Entails.of_eq (rest_send m c s)) $$ Hpay
  imod (Rounds.cell_close ER (rd m) (Set.mem_univ (K (c, kSend s))) (fun h => h) (R := 0 + 1) (duties_later m (sendCell s c))) $$ [Hat] with Hz
  · isplitr; · iapply (inv_send m K s c); iexact HR
    iexact Hat
  iapply Hk
  isplitl [HO]; · iexists _; iexact HO
  isplitl [Hz]; · iexact Hz
  unfold sendPay; iexact Hp

/-- The wait for slot `s` to have landed: the slot, holding what `src s c` sent. -/
theorem wp_wait_recv {α : Type} {Q : α → sProp 𝕄}
    {k : PUnit → Prog (TpuEff nD τ sig (Elt F) Λ₀ .tc) α} (W : Waits sig Unit) (s : Fin 3) (c : Dev nD) (rS : DmaSem sig) (hrS : rS = recvS s)
    {sM : Memref sig .tc .vmem S2x1024 .f32} {hsrc : sM.view.WordExact} {hdst : (slotM s).view.WordExact} :
    iprop(records m K ∗ cred (tallyAt (recvCell s c) () N) ∗ owes (c : Thread nD τ) 0 W ∗ atPos ER (recvCell s c) 0 ∅ 0)
      ⊢ iprop(((∃ W', owes (c : Thread nD τ) 0 W') ∗ semVal (recvCell s c) 0 ∗ slotPts c s (landed m c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 rS sM (slotM s) hsrc hdst) k) Q) := by
  subst hrS
  iintro ⟨#HR, Hc, HO, Hat⟩ Hk
  iapply (Rounds.wp_wait_rest_token 𝒱₀ ER (rd m) (c : Thread nD τ) none (κ := K (c, kRecv s))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K s c); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c s)) $$ Hpay
  imod (Rounds.cell_close ER (rd m) (Set.mem_univ (K (c, kRecv s))) (fun h => h) (R := 0 + 1) (duties_later m (recvCell s c))) $$ [Hat] with Hz
  · isplitr; · iapply (inv_recv m K s c); iexact HR
    iexact Hat
  iapply Hk
  isplitl [HO]; · iexists _; iexact HO
  isplitl [Hz]; · iexact Hz
  unfold recvPay; iexact Hp

end Steps

end Cert.KernelIdeal.Run

end
-- ==== Proof.IdealBody.lean ====
/-
The kernel body on one device, symbolically: at its first block (the devices meet at the barrier, the accumulator is
set), at a later block (the accumulator is merged with the block), and what follows the merge at the last block (the
accumulator is sent to the three other devices, theirs are received, and the result is formed).
-/
module

public import proofs.«01_k».proof.Proof.IdealProtocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's conditions -/

theorem cond1_iff : ∀ i : grid0.Coords, k0_cond1 i = 1#1 ↔ (i 0).val = 0 := by decide +kernel
theorem cond2_iff : ∀ i : grid0.Coords,
    Scalar.cmpi .ne (Scalar.extui (Scalar.cmpi .eq (BitVec.ofNat 32 (i 0).val) 0#32) : BitVec 32) 0#32 = 1#1 ↔ (i 0).val = 0 := by
  decide +kernel
theorem cond3_iff : ∀ i : grid0.Coords,
    Scalar.cmpi .ne (Scalar.extui (Scalar.cmpi .sgt (BitVec.ofNat 32 (i 0).val) 0#32) : BitVec 32) 0#32 = 1#1 ↔ (i 0).val ≠ 0 := by
  decide +kernel
theorem cond4_iff : ∀ i : grid0.Coords, k0_cond4 i = 1#1 ↔ (i 0).val = 15 := by decide +kernel

/-! ## What a device holds -/

/-- Device `c`'s accumulator, send and receive buffers, whole. -/
def accPts (c : Dev nD) (f : S2x1024.Idx → Elt F .f32) : sProp 𝕄 :=
  (accM : Memref sig .tc .vmem S2x1024 .f32).view.loc (c : Thread nD τ)
    ↦{fullShare} (f : Buf (Elt F) ((accM : Memref sig .tc .vmem S2x1024 .f32).view.loc (c : Thread nD τ)))
def bufPts (c : Dev nD) (f : S2x1024.Idx → Elt F .f32) : sProp 𝕄 :=
  (sendM : Memref sig .tc .vmem S2x1024 .f32).view.loc (c : Thread nD τ)
    ↦{fullShare} (f : Buf (Elt F) ((sendM : Memref sig .tc .vmem S2x1024 .f32).view.loc (c : Thread nD τ)))
def recvPts (c : Dev nD) (f : S3x2x1024.Idx → Elt F .f32) : sProp 𝕄 :=
  (recvM : Memref sig .tc .vmem S3x2x1024 .f32).view.loc (c : Thread nD τ)
    ↦{fullShare} (f : Buf (Elt F) ((recvM : Memref sig .tc .vmem S3x2x1024 .f32).view.loc (c : Thread nD τ)))

/-- The receive buffer is its three slots. -/
theorem recv_slots (c : Dev nD) (f : S3x2x1024.Idx → Elt F .f32) :
    recvPts c f = iprop(slotPts (F := F) c 0 f ∗ slotPts c 1 f ∗ slotPts c 2 f) := by
  refine Eq.trans ?_ (bigSep_slots (F := F) fun s => slotPts c s f)
  unfold recvPts slotPts
  refine Eq.trans ?_ (pointsTo_biUnion (ℓ := (recvM : Memref sig .tc .vmem S3x2x1024 .f32).view.loc (c : Thread nD τ)) Finset.univ slotSet
    slots_disjoint)
  rw [slots_cover]

/-- For slot `s`, what device `c` starts with: its positions at its own two semaphores, the duties it will pay — the
    entry signal, the transfer's two credits — and the credit it will be paid. -/
def slotStart (c : Dev nD) (s : Fin 3) : sProp 𝕄 :=
  iprop(atPos ER (sendCell s c) 0 ∅ 0 ∗ atPos ER (recvCell s c) 0 ∅ 0 ∗ dutyTok ER (barCell (src s c)) 0 s
    ∗ dutyTok ER (recvCell s (tgt s c)) 0 0 ∗ dutyTok ER (sendCell s c) 0 0 ∗ cred (tallyAt (recvCell s c) () N))
/-- and what it has between its first block and its last: the same without the entry signal, and the slot it will fill. -/
def slotMid (c : Dev nD) (s : Fin 3) : sProp 𝕄 :=
  iprop(atPos ER (sendCell s c) 0 ∅ 0 ∗ atPos ER (recvCell s c) 0 ∅ 0
    ∗ dutyTok ER (recvCell s (tgt s c)) 0 0 ∗ dutyTok ER (sendCell s c) 0 0 ∗ cred (tallyAt (recvCell s c) () N)
    ∗ ∃ f, slotPts (tgt s c) s f)

/-- What device `c` carries from block to block. -/
def mid (c : Dev nD) : sProp 𝕄 :=
  iprop(∃ K, records m K ∗ semVal (barCell c) 0 ∗ slotMid c 0 ∗ slotMid c 1 ∗ slotMid c 2)

/-! ## Loads and stores -/

abbrev full : Rect S256x1024 := Rect.unit (s := S256x1024) ![0, 0] S256x1024.size inb_S256x1024_S256x1024_0_0
abbrev full2 : Rect S2x1024 := Rect.unit (s := S2x1024) ![0, 0] S2x1024.size inb_S2x1024_S2x1024_0_0

omit [FloatOps F] in
theorem hz : (![0, 0] : Fin 2 → Nat) = fun _ => 0 := funext fun a => by fin_cases a <;> rfl
omit [FloatOps F] in
/-- A load of a whole block. -/
theorem readAt_full (M : Memref sig .tc .vmem S256x1024 .f32) (f : M.view.ty.Contents (Elt F)) :
    M.view.readAt (Elt F) full.toLoadRect f = M.view.read (Elt F) f := by
  funext j
  show M.view.read (Elt F) f (full.emb j) = _
  congr 1
  funext a
  apply Fin.ext
  match a with
  | ⟨0, _⟩ => show 0 + 1 * (j 0).val = (j 0).val; omega
  | ⟨1, _⟩ => show 0 + 1 * (j 1).val = (j 1).val; omega
omit [FloatOps F] in
theorem acc_row0 (f : S2x1024.Idx → Elt F .f32) : (accM : Memref sig .tc .vmem S2x1024 .f32).view.readAt (Elt F) row0.toLoadRect f = rowOf f 0 :=
  readAt_row0 (M := accM) f
omit [FloatOps F] in
theorem acc_row1 (f : S2x1024.Idx → Elt F .f32) : (accM : Memref sig .tc .vmem S2x1024 .f32).view.readAt (Elt F) row1.toLoadRect f = rowOf f 1 :=
  readAt_row1 (M := accM) f
omit [FloatOps F] in
theorem acc_store0 (f : S2x1024.Idx → Elt F .f32) (w : S1x1024.Idx → Elt F .f32) :
    ((accM : Memref sig .tc .vmem S2x1024 .f32).access row0).write (Elt F) f w Finset.univ = rows w (rowOf f 1) :=
  read_store_row0 (M := accM) f w
omit [FloatOps F] in
theorem acc_store1 (f : S2x1024.Idx → Elt F .f32) (w : S1x1024.Idx → Elt F .f32) :
    ((accM : Memref sig .tc .vmem S2x1024 .f32).access row1).write (Elt F) f w Finset.univ = rows (rowOf f 0) w :=
  read_store_row1 (M := accM) f w
omit [FloatOps F] in
theorem acc_whole (f : S2x1024.Idx → Elt F .f32) : (accM : Memref sig .tc .vmem S2x1024 .f32).view.readAt (Elt F) full2.toLoadRect f = f :=
  Memref.readAt_unit_zero (Elt F) cc0_scratch0 hz _ f
omit [FloatOps F] in
theorem send_store (f w : S2x1024.Idx → Elt F .f32) :
    ((sendM : Memref sig .tc .vmem S2x1024 .f32).access full2 : View sig .tc _ _ _).write (Elt F) f w Finset.univ = w :=
  Memref.write_access_unit_zero_univ (Elt F) cc0_scratch1 hz _ f w

/-- The accumulator after the first block. -/
theorem accRows_zero (c : Dev nD) : accRows m c 0 = rows (k0_pay4 (xb m c 0)) (k0_pay5 (BitVec.ofNat 32 0) (wd c) (xb m c 0)) := by
  rw [accRows, accAt]

section Body
variable (K : Dev nD × Fin 7 → ℕ)
  (arg1 : Memref sig .tc .vmem S256x1024 .f32) (harg1 : arg1.IsWhole) (arg2 : Memref sig .tc .vmem S2x1024 .f32) (harg2 : arg2.IsWhole)

/-- The body at block `i`, on the buffers the launch passes. -/
abbrev bodyOn (i : grid0.Coords) : Prog (TpuEff nD τ sig (Elt F) Λ₀ .tc) PUnit :=
  cc0_body i arg1 harg1 arg2 harg2 (Memref.whole cc0_scratch0) (Memref.isWhole_whole _) (Memref.whole cc0_scratch1)
    (Memref.isWhole_whole _) (Memref.whole cc0_scratch2) (Memref.isWhole_whole _) cc0_scratch3 cc0_scratch4

/-- A device's block, held as the pipeline hands it to the body. -/
abbrev xPts (c : Dev nD) (g1 : arg1.view.ty.Contents (Elt F)) : sProp 𝕄 :=
  arg1.view.loc (c : Thread nD τ) ↦[arg1.view.set]{fullShare} (g1 : Buf (Elt F) (arg1.view.loc (c : Thread nD τ)))
abbrev oPts (c : Dev nD) (g2 : arg2.view.ty.Contents (Elt F)) : sProp 𝕄 :=
  arg2.view.loc (c : Thread nD τ) ↦[arg2.view.set]{fullShare} (g2 : Buf (Elt F) (arg2.view.loc (c : Thread nD τ)))

set_option maxHeartbeats 1600000 in
/-- The first block. -/
theorem body_first (c : Dev nD) (i : grid0.Coords) (hi : (i 0).val = 0) (W : Waits sig Unit) (g1 : arg1.view.ty.Contents (Elt F)) (hg1 : arg1.view.read (Elt F) g1 = xb m c 0)
    (f0 : S2x1024.Idx → Elt F .f32) (f2 : S3x2x1024.Idx → Elt F .f32) (Kt : PUnit → sProp 𝕄) :
    iprop((records m K ∗ atPos ER (barCell c) 0 ∅ 0 ∗ slotStart c 0 ∗ slotStart c 1 ∗ slotStart c 2 ∗ cred (tallyAt (barCell c) () 3) ∗ levAts L lv)
        ∗ accPts c f0 ∗ recvPts c f2 ∗ owes (c : Thread nD τ) (O₀ c) W ∗ xPts arg1 c g1
        ∗ ((mid m c ∗ accPts c (accRows m c 0) ∗ (∃ W', owes (c : Thread nD τ) (owed0 c) W') ∗ xPts arg1 c g1) -∗ Kt ⟨⟩))
      ⊢ wp frame (wpE (defs₀ (F := F)) 𝒱₀ (c : Thread nD τ) none) Set.univ (bodyOn arg1 harg1 arg2 harg2 i) Kt := by
  unfold bodyOn
  simp only [cc0_body_eq_skeleton]; unfold cc0_body_skel
  simp only [k0_part4_eq_skeleton]; unfold k0_part4_skel
  simp only [dif_pos ((cond1_iff i).mpr hi), dif_neg (mt (cond4_iff i).mp (by rw [hi]; decide)), semSignalWord, semWaitWord, Prog.lift, Prog.bind_op, Prog.bind_ret, Prog.pure_eq_ret, wp_deviceId,
    dif_pos ((cond2_iff i).mpr hi), dif_neg (mt (cond3_iff i).mp (not_not.mpr hi))]
  rw [show BitVec.ofNat 32 (i 0).val = BitVec.ofNat 32 0 from congrArg _ hi, show Scalar.remsi (Scalar.divsi (Dev.word c) 1#32) 4#32 = wd c from rfl, recv_slots]
  unfold slotStart O₀ O1 O2
  iintro ⟨⟨#HR, HaB, ⟨HaS0, HaV0, HtB0, HtV0, HtS0, Hc0⟩, ⟨HaS1, HaV1, HtB1, HtV1, HtS1, Hc1⟩, ⟨HaS2, HaV2, HtB2, HtV2, HtS2, Hc2⟩, HcB, #Hlev⟩,
    Hacc, ⟨Hr0, Hr1, Hr2⟩, HO, Hx, Hk⟩
  iapply (wp_signal_slot m K W 0 c _ (dev1_eq c _) (O1 c)) $$ [HO HtB0 Hr0]
  · isplitr; · iexact HR
    isplitl [HO]; · unfold O1 O2; iexact HO
    isplitl [HtB0]; · iexact HtB0
    iexists f2; iexact Hr0
  iintro HO
  iapply (wp_signal_slot m K W 1 c _ (dev2_eq c _) (O2 c)) $$ [HO HtB1 Hr1]
  · isplitr; · iexact HR
    isplitl [HO]; · iexact HO
    isplitl [HtB1]; · iexact HtB1
    iexists f2; iexact Hr1
  iintro HO
  iapply (wp_signal_slot m K W 2 c _ (dev3_eq c _) (owed0 c)) $$ [HO HtB2 Hr2]
  · isplitr; · iexact HR
    isplitl [HO]; · iexact HO
    isplitl [HtB2]; · iexact HtB2
    iexists f2; iexact Hr2
  iintro HO
  iapply (wp_wait_bar m K W c) $$ [HcB HO HaB]
  · isplitr; · iexact HR
    isplitl [HcB]; · iexact HcB
    isplitl [HO]; · iexact HO
    isplitr; · iexact Hlev
    iexact HaB
  iintro ⟨HO, HaB, Hr0, Hr1, Hr2⟩
  imod (Rounds.cell_close ER (rd m) (Set.mem_univ (K (c, 0))) (fun h => h) (R := 0 + 1) (duties_later m (barCell c))) $$ [HaB] with HzB
  · isplitr; · iapply (inv_bar m K c); iexact HR
    iexact HaB
  iapply (wp_load 𝒱₀ (c : Thread nD τ) none Set.univ (m := arg1) (View.setOn_subset_set _ _)) $$ Hx; iintro Hx
  rw [readAt_full, hg1]
  unfold accPts
  iapply (wp_load 𝒱₀ (c : Thread nD τ) none Set.univ (m := accM) (Finset.subset_univ _)) $$ Hacc; iintro Hacc
  iapply (wp_store 𝒱₀ (c : Thread nD τ) none Set.univ (m := accM) (r := row0) (Mk := Finset.univ) (Finset.subset_univ _)) $$ Hacc; iintro Hacc
  rw [acc_store0]
  iapply (wp_load 𝒱₀ (c : Thread nD τ) none Set.univ (m := accM) (Finset.subset_univ _)) $$ Hacc; iintro Hacc
  iapply (wp_store 𝒱₀ (c : Thread nD τ) none Set.univ (m := accM) (r := row1) (Mk := Finset.univ) (Finset.subset_univ _)) $$ Hacc; iintro Hacc
  rw [acc_store1, rowOf_rows_zero, wp_ret, ← accRows_zero]; imodintro
  iapply Hk
  isplitl [HzB HaS0 HaV0 HtV0 HtS0 Hc0 Hr0 HaS1 HaV1 HtV1 HtS1 Hc1 Hr1 HaS2 HaV2 HtV2 HtS2 Hc2 Hr2]
  · unfold mid slotMid
    iexists K
    isplitr; · iexact HR
    isplitl [HzB]; · iexact HzB
    isplitl [HaS0 HaV0 HtV0 HtS0 Hc0 Hr0]
    · isplitl [HaS0]; · iexact HaS0
      isplitl [HaV0]; · iexact HaV0
      isplitl [HtV0]; · iexact HtV0
      isplitl [HtS0]; · iexact HtS0
      isplitl [Hc0] <;> iassumption
    isplitl [HaS1 HaV1 HtV1 HtS1 Hc1 Hr1]
    · isplitl [HaS1]; · iexact HaS1
      isplitl [HaV1]; · iexact HaV1
      isplitl [HtV1]; · iexact HtV1
      isplitl [HtS1]; · iexact HtS1
      isplitl [Hc1] <;> iassumption
    isplitl [HaS2]; · iexact HaS2
    isplitl [HaV2]; · iexact HaV2
    isplitl [HtV2]; · iexact HtV2
    isplitl [HtS2]; · iexact HtS2
    isplitl [Hc2] <;> iassumption
  isplitl [Hacc]; · iexact Hacc
  isplitl [HO]; · iexists _; iexact HO
  iexact Hx

set_option maxHeartbeats 800000 in
/-- The merge of a later block into the accumulator, whatever comes after it. -/
theorem wp_merge (c : Dev nD) (n : ℕ) (g1 : arg1.view.ty.Contents (Elt F)) (hg1 : arg1.view.read (Elt F) g1 = xb m c (n + 1))
    {Q : PUnit → sProp 𝕄} (k : PUnit → Prog (TpuEff nD τ sig (Elt F) Λ₀ .tc) PUnit)
    {hl1 : arg1.view.LoadsAt full.toLoadRect} {hl2 hl3 hl4 : (accM : Memref sig .tc .vmem S2x1024 .f32).view.LoadsAt row0.toLoadRect}
    {hl5 hl6 : (accM : Memref sig .tc .vmem S2x1024 .f32).view.LoadsAt row1.toLoadRect}
    {hs0 : ((accM : Memref sig .tc .vmem S2x1024 .f32).access row0).Stores Finset.univ} {hm0 : (Finset.univ : Finset row0.shape.Idx) = Finset.univ ∨ ∀ a, row0.stride a = 1}
    {hs1 : ((accM : Memref sig .tc .vmem S2x1024 .f32).access row1).Stores Finset.univ} {hm1 : (Finset.univ : Finset row1.shape.Idx) = Finset.univ ∨ ∀ a, row1.stride a = 1} :
    iprop(accPts c (accRows m c n) ∗ xPts arg1 c g1)
      ⊢ iprop(((accPts c (accRows m c (n + 1)) ∗ xPts arg1 c g1) -∗ wp frame (wpE (defs₀ (F := F)) 𝒱₀ (c : Thread nD τ) none) Set.univ (k ⟨⟩) Q)
        -∗ wp frame (wpE (defs₀ (F := F)) 𝒱₀ (c : Thread nD τ) none) Set.univ
          (.op (.load arg1 full.toLoadRect hl1) fun v39 => .op (.load accM row0.toLoadRect hl2) fun v65 => .op (.load accM row0.toLoadRect hl3) fun v67 =>
            .op (.load accM row0.toLoadRect hl4) fun _ => .op (.store accM row0 (k0_pay7 v39 v65 v67) Finset.univ hs0 hm0) fun _ =>
            .op (.load accM row1.toLoadRect hl5) fun v72 => .op (.load accM row1.toLoadRect hl6) fun _ =>
            .op (.store accM row1 (k0_pay8 (BitVec.ofNat 32 (n + 1)) (wd c) v39 v65 v72) Finset.univ hs1 hm1) k) Q) := by
  iintro ⟨Hacc, Hx⟩ Hk
  iapply (wp_load 𝒱₀ (c : Thread nD τ) none Set.univ (m := arg1) (View.setOn_subset_set _ _)) $$ Hx; iintro Hx
  rw [readAt_full, hg1]
  unfold accPts
  iapply (wp_load 𝒱₀ (c : Thread nD τ) none Set.univ (m := accM) (Finset.subset_univ _)) $$ Hacc; iintro Hacc
  iapply (wp_load 𝒱₀ (c : Thread nD τ) none Set.univ (m := accM) (Finset.subset_univ _)) $$ Hacc; iintro Hacc
  iapply (wp_load 𝒱₀ (c : Thread nD τ) none Set.univ (m := accM) (Finset.subset_univ _)) $$ Hacc; iintro Hacc
  rw [acc_row0]
  iapply (wp_store 𝒱₀ (c : Thread nD τ) none Set.univ (m := accM) (r := row0) (Mk := Finset.univ) (Finset.subset_univ _)) $$ Hacc; iintro Hacc
  rw [acc_store0]
  iapply (wp_load 𝒱₀ (c : Thread nD τ) none Set.univ (m := accM) (Finset.subset_univ _)) $$ Hacc; iintro Hacc
  iapply (wp_load 𝒱₀ (c : Thread nD τ) none Set.univ (m := accM) (Finset.subset_univ _)) $$ Hacc; iintro Hacc
  rw [acc_row1, rowOf_rows_one]
  iapply (wp_store 𝒱₀ (c : Thread nD τ) none Set.univ (m := accM) (r := row1) (Mk := Finset.univ) (Finset.subset_univ _)) $$ Hacc; iintro Hacc
  rw [acc_store1, rowOf_rows_zero]
  iapply Hk
  isplitl [Hacc]
  · unfold accRows at *
    rw [rowOf_rows_zero, rowOf_rows_one]
    iexact Hacc
  iexact Hx

/-- A later block that is not the last. -/
theorem body_later (c : Dev nD) (n : ℕ) (i : grid0.Coords) (hi : (i 0).val = n + 1) (hn : n + 1 ≠ 15) (g1 : arg1.view.ty.Contents (Elt F))
    (hg1 : arg1.view.read (Elt F) g1 = xb m c (n + 1)) (Kt : PUnit → sProp 𝕄) :
    iprop(accPts c (accRows m c n) ∗ xPts arg1 c g1 ∗ ((accPts c (accRows m c (n + 1)) ∗ xPts arg1 c g1) -∗ Kt ⟨⟩))
      ⊢ wp frame (wpE (defs₀ (F := F)) 𝒱₀ (c : Thread nD τ) none) Set.univ (bodyOn arg1 harg1 arg2 harg2 i) Kt := by
  unfold bodyOn
  simp only [cc0_body_eq_skeleton]; unfold cc0_body_skel
  simp only [k0_part4_eq_skeleton]; unfold k0_part4_skel
  simp only [dif_neg (mt (cond1_iff i).mp (by omega)), dif_neg (mt (cond4_iff i).mp (by omega)), Prog.lift, Prog.bind_op, Prog.bind_ret, Prog.pure_eq_ret, wp_deviceId,
    dif_neg (mt (cond2_iff i).mp (by omega)), dif_pos ((cond3_iff i).mpr (by omega))]
  rw [show BitVec.ofNat 32 (i 0).val = BitVec.ofNat 32 (n + 1) from congrArg _ hi, show Scalar.remsi (Scalar.divsi (Dev.word c) 1#32) 4#32 = wd c from rfl]
  iintro ⟨Hacc, Hx, Hk⟩
  iapply (wp_merge m arg1 c n g1 hg1) $$ [Hacc Hx]
  · isplitl [Hacc] <;> iassumption
  iintro H
  rw [wp_ret]; imodintro
  iapply Hk
  iexact H

/-- All seven of device `c`'s shared semaphores at zero. -/
def closed (c : Dev nD) : sProp 𝕄 :=
  iprop(semVal (barCell c) 0 ∗ (semVal (sendCell 0 c) 0 ∗ semVal (recvCell 0 c) 0) ∗ (semVal (sendCell 1 c) 0 ∗ semVal (recvCell 1 c) 0)
    ∗ (semVal (sendCell 2 c) 0 ∗ semVal (recvCell 2 c) 0))

omit [FloatOps F] in
theorem send_set : ((sendM : Memref sig .tc .vmem S2x1024 .f32).view.set : Finset S2x1024.Idx) = Finset.univ := View.set_whole _
theorem sendPts_eq (c : Dev nD) (q : PosShare TreeShare) : sendPts m c q = iprop((c : Thread nD τ).loc cc0_scratch1 ↦{q} (sent m c : Buf (Elt F) ((c : Thread nD τ).loc cc0_scratch1))) := by
  unfold sendPts
  exact congrArg (fun S : Finset S2x1024.Idx => ((c : Thread nD τ).loc cc0_scratch1 ↦[S]{q} (sent m c : Buf (Elt F) ((c : Thread nD τ).loc cc0_scratch1)) : sProp 𝕄)) send_set

/-- The send buffer, written, as the three thirds the transfers read, and what is left. -/
theorem send_split (c : Dev nD) :
    (((sendM : Memref sig .tc .vmem S2x1024 .f32).access full2).loc (c : Thread nD τ)
        ↦{fullShare} (k0_pay13 (accRows m c (14 + 1)) : Buf (Elt F) (((sendM : Memref sig .tc .vmem S2x1024 .f32).access full2).loc (c : Thread nD τ))) : sProp 𝕄)
    ⊢ iprop(sendPts m c (shareDrop fullShare 3) ∗ sendPts m c (shareTok fullShare 3 0) ∗ sendPts m c (shareTok fullShare 3 1) ∗ sendPts m c (shareTok fullShare 3 2)) := by
  rw [← bigSep_slots (F := F) fun s => sendPts m c (shareTok fullShare 3 s)]
  simp only [sendPts_eq]
  exact pointsTo_toks_split fullShare 3
theorem send_join (c : Dev nD) :
    iprop(sendPts m c (shareDrop fullShare 3) ∗ sendPts m c (shareTok fullShare 3 0) ∗ sendPts m c (shareTok fullShare 3 1) ∗ sendPts m c (shareTok fullShare 3 2))
      ⊢ bufPts c (sent m c) := by
  rw [← bigSep_slots (F := F) fun s => sendPts m c (shareTok fullShare 3 s)]
  simp only [sendPts_eq]
  exact pointsTo_toks_join fullShare 3

set_option maxHeartbeats 1600000 in
/-- The last block. -/
theorem body_last (c : Dev nD) (i : grid0.Coords) (hi : (i 0).val = 14 + 1) (W : Waits sig Unit) (g1 : arg1.view.ty.Contents (Elt F)) (hg1 : arg1.view.read (Elt F) g1 = xb m c (14 + 1))
    (g2 : arg2.view.ty.Contents (Elt F)) (f1 : S2x1024.Idx → Elt F .f32) (Kt : PUnit → sProp 𝕄) :
    iprop(mid m c ∗ accPts c (accRows m c 14) ∗ bufPts c f1 ∗ owes (c : Thread nD τ) (owed0 c) W ∗ xPts arg1 c g1 ∗ oPts arg2 c g2
        ∗ ((closed c ∗ accPts c (accRows m c 15) ∗ bufPts c (sent m c) ∗ recvPts c (landed m c) ∗ (∃ W', owes (c : Thread nD τ) 0 W') ∗ xPts arg1 c g1
            ∗ ∃ g, ⌜arg2.view.read (Elt F) g = outAt m c⌝ ∗ oPts arg2 c g) -∗ Kt ⟨⟩))
      ⊢ wp frame (wpE (defs₀ (F := F)) 𝒱₀ (c : Thread nD τ) none) Set.univ (bodyOn arg1 harg1 arg2 harg2 i) Kt := by
  unfold bodyOn
  simp only [cc0_body_eq_skeleton]; unfold cc0_body_skel
  simp only [k0_part4_eq_skeleton, k0_part1_eq_skeleton, k0_part2_eq_skeleton, k0_part3_eq_skeleton]; unfold k0_part4_skel k0_part1_skel k0_part2_skel k0_part3_skel
  simp only [dif_neg (mt (cond1_iff i).mp (by omega)), dif_pos ((cond4_iff i).mpr (by omega)), Prog.lift, Prog.bind_op, Prog.bind_ret, Prog.pure_eq_ret, wp_deviceId,
    dif_neg (mt (cond2_iff i).mp (by omega)), dif_pos ((cond3_iff i).mpr (by omega))]
  rw [show BitVec.ofNat 32 (i 0).val = BitVec.ofNat 32 (14 + 1) from congrArg _ hi, show Scalar.remsi (Scalar.divsi (Dev.word c) 1#32) 4#32 = wd c from rfl]
  unfold mid slotMid owed0 owed1 owed2
  iintro ⟨⟨%K, #HR, HzB, ⟨HaS0, HaV0, HtV0, HtS0, Hc0, Hd0⟩, ⟨HaS1, HaV1, HtV1, HtS1, Hc1, Hd1⟩, ⟨HaS2, HaV2, HtV2, HtS2, Hc2, Hd2⟩⟩,
    Hacc, Hs, HO, Hx, Ho, Hk⟩
  iapply (wp_merge m arg1 c 14 g1 hg1) $$ [Hacc Hx]
  · isplitl [Hacc] <;> iassumption
  iintro ⟨Hacc, Hx⟩
  unfold accPts bufPts
  iapply (wp_load 𝒱₀ (c : Thread nD τ) none Set.univ (m := accM) (Finset.subset_univ _)) $$ Hacc; iintro Hacc
  rw [acc_whole]
  iapply (wp_load 𝒱₀ (c : Thread nD τ) none Set.univ (m := sendM) (Finset.subset_univ _)) $$ Hs; iintro Hs
  iapply (wp_store 𝒱₀ (c : Thread nD τ) none Set.univ (m := sendM) (r := full2) (Mk := Finset.univ) (Finset.subset_univ _)) $$ Hs; iintro Hs
  rw [send_store]
  ihave Hs' := (send_split m c) $$ Hs
  icases Hs' with ⟨Hs, Hs0, Hs1, Hs2⟩
  iapply (wp_send_slot m K W 0 c _ (dev4_eq c _) _ _ rfl rfl (owed1 c)) $$ [Hs0 Hd0 HO HtS0 HtV0]
  · isplitr; · iexact HR
    isplitl [Hs0]; · iexact Hs0
    isplitl [Hd0]; · iexact Hd0
    isplitl [HO]; · iexact HO
    isplitl [HtS0] <;> iassumption
  iintro ⟨HcS0, HO⟩
  iapply (wp_send_slot m K W 1 c _ (dev5_eq c _) _ _ rfl rfl (owed2 c)) $$ [Hs1 Hd1 HO HtS1 HtV1]
  · isplitr; · iexact HR
    isplitl [Hs1]; · iexact Hs1
    isplitl [Hd1]; · iexact Hd1
    isplitl [HO]; · iexact HO
    isplitl [HtS1] <;> iassumption
  iintro ⟨HcS1, HO⟩
  iapply (wp_send_slot m K W 2 c _ (dev6_eq c _) _ _ rfl rfl 0) $$ [Hs2 Hd2 HO HtS2 HtV2]
  · isplitr; · iexact HR
    isplitl [Hs2]; · iexact Hs2
    isplitl [Hd2]; · iexact Hd2
    isplitl [HO]; · iexact HO
    isplitl [HtS2] <;> iassumption
  iintro ⟨HcS2, HO⟩
  iapply (wp_load 𝒱₀ (c : Thread nD τ) none Set.univ (m := accM) (Finset.subset_univ _)) $$ Hacc; iintro Hacc
  iapply (wp_load 𝒱₀ (c : Thread nD τ) none Set.univ (m := accM) (Finset.subset_univ _)) $$ Hacc; iintro Hacc
  iapply (wp_wait_send m K _ 0 c _ rfl) $$ [HcS0 HO HaS0]
  · isplitr; · iexact HR
    isplitl [HcS0]; · iexact HcS0
    isplitl [HO] <;> iassumption
  iintro ⟨⟨%W1, HO⟩, HzS0, Hs0⟩
  iapply (wp_wait_recv m K _ 0 c _ rfl) $$ [Hc0 HO HaV0]
  · isplitr; · iexact HR
    isplitl [Hc0]; · iexact Hc0
    isplitl [HO] <;> iassumption
  iintro ⟨⟨%W2, HO⟩, HzV0, Hr0⟩
  iapply (wp_wait_send m K _ 1 c _ rfl) $$ [HcS1 HO HaS1]
  · isplitr; · iexact HR
    isplitl [HcS1]; · iexact HcS1
    isplitl [HO] <;> iassumption
  iintro ⟨⟨%W3, HO⟩, HzS1, Hs1⟩
  iapply (wp_wait_recv m K _ 1 c _ rfl) $$ [Hc1 HO HaV1]
  · isplitr; · iexact HR
    isplitl [Hc1]; · iexact Hc1
    isplitl [HO] <;> iassumption
  iintro ⟨⟨%W4, HO⟩, HzV1, Hr1⟩
  iapply (wp_wait_send m K _ 2 c _ rfl) $$ [HcS2 HO HaS2]
  · isplitr; · iexact HR
    isplitl [HcS2]; · iexact HcS2
    isplitl [HO] <;> iassumption
  iintro ⟨⟨%W5, HO⟩, HzS2, Hs2⟩
  iapply (wp_wait_recv m K _ 2 c _ rfl) $$ [Hc2 HO HaV2]
  · isplitr; · iexact HR
    isplitl [Hc2]; · iexact Hc2
    isplitl [HO] <;> iassumption
  iintro ⟨⟨%W6, HO⟩, HzV2, Hr2⟩
  ihave Hs := (send_join m c) $$ [Hs Hs0 Hs1 Hs2]
  · isplitl [Hs]; · iexact Hs
    isplitl [Hs0]; · iexact Hs0
    isplitl [Hs1] <;> iassumption
  ihave Hr := (Entails.of_eq (recv_slots c (landed m c)).symm) $$ [Hr0 Hr1 Hr2]
  · isplitl [Hr0]; · iexact Hr0
    isplitl [Hr1] <;> iassumption
  unfold recvPts bufPts
  iapply (wp_load 𝒱₀ (c : Thread nD τ) none Set.univ (m := recvM) (Finset.subset_univ _)) $$ Hr; iintro Hr
  iapply (wp_load 𝒱₀ (c : Thread nD τ) none Set.univ (m := recvM) (Finset.subset_univ _)) $$ Hr; iintro Hr
  iapply (wp_load 𝒱₀ (c : Thread nD τ) none Set.univ (m := recvM) (Finset.subset_univ _)) $$ Hr; iintro Hr
  iapply (wp_load 𝒱₀ (c : Thread nD τ) none Set.univ (m := recvM) (Finset.subset_univ _)) $$ Hr; iintro Hr
  iapply (wp_load 𝒱₀ (c : Thread nD τ) none Set.univ (m := recvM) (Finset.subset_univ _)) $$ Hr; iintro Hr
  iapply (wp_load 𝒱₀ (c : Thread nD τ) none Set.univ (m := recvM) (Finset.subset_univ _)) $$ Hr; iintro Hr
  iapply (wp_load 𝒱₀ (c : Thread nD τ) none Set.univ (m := arg2) (View.setOn_subset_set _ _)) $$ Ho; iintro Ho
  iapply (wp_store 𝒱₀ (c : Thread nD τ) none Set.univ (m := arg2) (r := row0) (Mk := Finset.univ) (S := arg2.view.set) (View.set_slice_subset arg2.view row0)) $$ Ho; iintro Ho
  iapply (wp_load 𝒱₀ (c : Thread nD τ) none Set.univ (m := arg2) (View.setOn_subset_set _ _)) $$ Ho; iintro Ho
  iapply (wp_store 𝒱₀ (c : Thread nD τ) none Set.univ (m := arg2) (r := row1) (Mk := Finset.univ) (S := arg2.view.set) (View.set_slice_subset arg2.view row1)) $$ Ho; iintro Ho
  rw [acc_row0, acc_row1, read_landed m c 0 0 ![0, 0, 0] inb_S3x2x1024_S1x1x1024_0_0_0 rfl, read_landed m c 0 1 ![0, 1, 0] inb_S3x2x1024_S1x1x1024_0_1_0 rfl, read_landed m c 1 0 ![1, 0, 0] inb_S3x2x1024_S1x1x1024_1_0_0 rfl, read_landed m c 1 1 ![1, 1, 0] inb_S3x2x1024_S1x1x1024_1_1_0 rfl,
    read_landed m c 2 0 ![2, 0, 0] inb_S3x2x1024_S1x1x1024_2_0_0 rfl, read_landed m c 2 1 ![2, 1, 0] inb_S3x2x1024_S1x1x1024_2_1_0 rfl, wp_ret]
  imodintro
  iapply Hk
  unfold closed
  isplitl [HzB HzS0 HzV0 HzS1 HzV1 HzS2 HzV2]
  · isplitl [HzB]; · iexact HzB
    isplitl [HzS0 HzV0]; · isplitl [HzS0] <;> iassumption
    isplitl [HzS1 HzV1]; · isplitl [HzS1] <;> iassumption
    isplitl [HzS2] <;> iassumption
  isplitl [Hacc]; · iexact Hacc
  isplitl [Hs]; · iexact Hs
  isplitl [Hr]; · iexact Hr
  isplitl [HO]; · iexists _; iexact HO
  isplitl [Hx]; · iexact Hx
  iexists _
  isplitr
  rotate_left
  · iexact Ho
  ipureintro
  rw [read_store_rows]
  unfold outAt outA outB accRows
  rw [rowOf_rows_zero, rowOf_rows_one]

end Body
end Cert.KernelIdeal.Run
end
-- ==== Proof.IdealPipeline.lean ====
/-
The kernel's sixteen blocks on one device as one pipeline: what the device holds between two blocks, what it still owes
the others there, and that the body takes it from each to the next.
-/
module

public import proofs.«01_k».proof.Proof.IdealBody

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Between two blocks -/

/-- What device `c` has of the shared semaphores before its first block. -/
def start (c : Dev nD) : sProp 𝕄 :=
  iprop(∃ K, records m K ∗ atPos ER (barCell c) 0 ∅ 0 ∗ slotStart c 0 ∗ slotStart c 1 ∗ slotStart c 2 ∗ cred (tallyAt (barCell c) () 3) ∗ levAts L lv)

/-- Before the first block; -/
def Φ₀ (c : Dev nD) : sProp 𝕄 := iprop(start m c ∗ (∃ f, accPts c f) ∗ (∃ f, bufPts c f) ∗ (∃ f, recvPts c f))
/-- after block `n`, not the last: the accumulator is that of the blocks so far, the landing slots are with the senders; -/
def Φ₁ (c : Dev nD) (n : ℕ) : sProp 𝕄 := iprop(mid m c ∗ accPts c (accRows m c n) ∗ (∃ f, bufPts c f))
/-- after the last. -/
def Φ₂ (c : Dev nD) : sProp 𝕄 := iprop(closed c ∗ (∃ f, accPts c f) ∗ (∃ f, bufPts c f) ∗ (∃ f, recvPts c f))

/-- What device `c` holds before block `n`, -/
def held (c : Dev nD) : ℕ → sProp 𝕄
  | 0 => Φ₀ m c
  | n + 1 => if n = 15 then Φ₂ c else Φ₁ m c n
/-- and what it owes there. -/
def owedAt (c : Dev nD) : ℕ → CellTallies nD τ sig Unit
  | 0 => O₀ c
  | n + 1 => if n = 15 then 0 else owed0 c

theorem held_zero (c : Dev nD) : held m c 0 = Φ₀ m c := rfl
theorem held_succ (c : Dev nD) {n : ℕ} (h : n ≠ 15) : held m c (n + 1) = Φ₁ m c n := if_neg h
theorem owedAt_succ (c : Dev nD) {n : ℕ} (h : n ≠ 15) : owedAt c (n + 1) = owed0 c := if_neg h

/-- The blocks of the input and the result. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => outAt m c
  Φ t := held m c t.val
  q _ := fullShare
  owed t := owedAt c t.val

theorem coords_val : ∀ t : Fin cfg0.N, (grid0.coords t 0).val = t.val := by decide +kernel
theorem idle_out : ∀ t : Fin cfg0.N, t.val ≠ 15 → idle0 1 (grid0.coords t) = true := by decide +kernel
theorem live_out : ∀ t : Fin cfg0.N, t.val = 15 → idle0 1 (grid0.coords t) = false := by decide +kernel
theorem noflush_out (t : Fin cfg0.N) (h : t.val ≠ 15) : (cfg0.win 1).flush t = false := by
  have hN : t.val < 16 := lt_of_lt_of_eq t.isLt N_0
  exact Bool.eq_false_iff.mpr fun hf => by have := (flush0_1 t).mp hf; omega

/-- The input's staging buffer holds block `t` when the body runs at point `t`. -/
theorem before_x (c : Dev nD) (t : Fin cfg0.N) (d) : (dats m ρ 0 c).before 0 t d = xb m c t.val := by
  rw [xb_val]
  exact ((dats m ρ 0 c).before_in_eq_fetched 0 rfl (fun _ => rfl) (fun _ _ _ => rfl) (fun t => rfl) t d).trans rfl

section Obligation
variable (c : Dev nD) (t : Fin cfg0.N)

/-- What the body is given at point `t`, and what it leaves. -/
def bodyPre : sProp 𝕄 :=
  iprop(held m c t.val ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d)))
def bodyPost : sProp 𝕄 :=
  iprop(held m c (t.val + 1) ∗ (dats m ρ 0 c).owesAt () t.succ ∗ (dats m ρ 0 c).leavesExact 0 t ∗ (dats m ρ 0 c).leavesExact 1 t)

/-- The input's staging buffer, as the body uses it. -/
theorem x_open : iprop(∃ d, owns (c : Thread nD τ) (st0_0 t) fullShare ((dats m ρ 0 c).before 0 t d))
    ⊢ (iprop(∃ g, ⌜(st0_0 t).view.read (Elt F) g = xb m c t.val⌝ ∗ xPts (st0_0 t) c g) : sProp 𝕄) := by
  unfold owns
  iintro ⟨%d, %g, %hg, H⟩
  iexists g
  isplitr
  · ipureintro; rw [hg, before_x]
  iexact H
theorem x_close (g) (hg : (st0_0 t).view.read (Elt F) g = xb m c t.val) : (xPts (st0_0 t) c g : sProp 𝕄) ⊢ (dats m ρ 0 c).leavesExact 0 t := by
  show _ ⊢ iprop(owns (c : Thread nD τ) (st0_0 t) fullShare (iblk m c 0 t))
  unfold owns
  iintro H
  iexists g
  isplitr
  · ipureintro; rw [hg, xb_val]
  iexact H

theorem owes_open : (dats m ρ 0 c).owesAt () t.castSucc ⊢ iprop(∃ W, owes (c : Thread nD τ) (owedAt c t.val) W) := by
  unfold Dat.owesAt Pipeline.owesWithin
  iintro ⟨%W, %hW, HO⟩
  iexists W
  iexact HO
theorem owes_close : iprop(∃ W, owes (c : Thread nD τ) (owedAt c (t.val + 1)) W) ⊢ (dats m ρ 0 c).owesAt () t.succ := by
  unfold Dat.owesAt Pipeline.owesWithin
  iintro ⟨%W, HO⟩
  iexists W
  isplitr
  · ipureintro; exact fun _ _ => Or.inl trivial
  iexact HO

/-- The body at point `t`. -/
theorem sound_body : bodyPre m ρ c t ⊢ wp frame (wpE (defs₀ (F := F)) 𝒱₀ (c : Thread nD τ) none) Set.univ (bodyAt0 t) (fun _ => bodyPost m ρ c t) := by
  have hN : t.val < 16 := lt_of_lt_of_eq t.isLt N_0
  have hi : (grid0.coords t 0).val = t.val := coords_val t
  unfold bodyPre bodyPost
  refine (sep_mono_right (sep_mono_left (owes_open m ρ c t))).trans ?_
  by_cases h15 : t.val = 15
  · rw [show (dats m ρ 0 c).leavesExact 1 t = iprop(owns (c : Thread nD τ) (st0_1 t) fullShare (outAt m c)) by
      unfold Dat.leavesExact; rw [show cfg0.idle 1 (cfg0.grid.coords t) = false from live_out t h15]; rfl]
    rw [show held m c t.val = Φ₁ m c 14 by rw [h15]; rfl, show held m c (t.val + 1) = Φ₂ c by rw [h15]; rfl, show owedAt c t.val = owed0 c by rw [h15]; rfl]
    unfold Φ₁ Φ₂
    iintro ⟨⟨Hmid, Hacc, ⟨%f1, Hs⟩⟩, ⟨%W, HO⟩, Hx, Hout⟩
    ihave Hx := (x_open m ρ c t) $$ Hx
    icases Hx with ⟨%g1, %hg1, Hx⟩
    unfold owns
    icases Hout with ⟨%d, %g2, %hg2, Hout⟩
    iapply (body_last m (st0_0 t) (hstage0_0 ((cfg0.slots t 0).cast nbuf0_0)) (st0_1 t) (hstage0_1 ((cfg0.slots t 1).cast nbuf0_1)) c (grid0.coords t) (hi.trans h15) W g1 (by rw [hg1, h15]) g2 f1)
    isplitl [Hmid]; · iexact Hmid
    isplitl [Hacc]; · iexact Hacc
    isplitl [Hs]; · iexact Hs
    isplitl [HO]; · iexact HO
    isplitl [Hx]; · iexact Hx
    isplitl [Hout]; · iexact Hout
    iintro ⟨Hcl, Hacc, Hs, Hr, HO, Hx, Hout⟩
    isplitl [Hcl Hacc Hs Hr]
    · isplitl [Hcl]; · iexact Hcl
      isplitl [Hacc]; · iexists _; iexact Hacc
      isplitl [Hs]; · iexists _; iexact Hs
      iexists _; iexact Hr
    isplitl [HO]
    · iapply (owes_close m ρ c t)
      rw [show owedAt c (t.val + 1) = 0 by rw [h15]; rfl]
      iexact HO
    isplitl [Hx]
    · iapply (x_close m ρ c t g1 hg1); iexact Hx
    iexact Hout
  · rw [(dats m ρ 0 c).leavesExact_idle 1 t (idle_out t h15) (noflush_out t h15)]
    rcases hn : t.val with _ | n
    · rw [held_zero, held_succ m c (by decide), show owedAt c 0 = O₀ c from rfl]; unfold Φ₀ Φ₁ start
      iintro ⟨⟨⟨%K, Hst⟩, ⟨%f0, Hacc⟩, Hs, ⟨%f2, Hr⟩⟩, ⟨%W, HO⟩, Hx, Hout⟩
      ihave Hx := (x_open m ρ c t) $$ Hx
      icases Hx with ⟨%g1, %hg1, Hx⟩
      iapply (body_first m K (st0_0 t) (hstage0_0 ((cfg0.slots t 0).cast nbuf0_0)) (st0_1 t) (hstage0_1 ((cfg0.slots t 1).cast nbuf0_1)) c (grid0.coords t) (hi.trans hn) W g1 (by rw [hg1, hn]) f0 f2)
      isplitl [Hst]; · iexact Hst
      isplitl [Hacc]; · iexact Hacc
      isplitl [Hr]; · iexact Hr
      isplitl [HO]; · iexact HO
      isplitl [Hx]; · iexact Hx
      iintro ⟨Hmid, Hacc, HO, Hx⟩
      isplitl [Hmid Hacc Hs]
      · isplitl [Hmid]; · iexact Hmid
        isplitl [Hacc]; · iexact Hacc
        iexact Hs
      isplitl [HO]
      · iapply (owes_close m ρ c t)
        rw [hn, owedAt_succ c (by decide)]
        iexact HO
      isplitl [Hx]
      · iapply (x_close m ρ c t g1 hg1); iexact Hx
      iexact Hout
    · have hn15 : n + 1 ≠ 15 := hn ▸ h15
      have hn' : n ≠ 15 := by omega
      rw [held_succ m c hn', held_succ m c hn15, owedAt_succ c hn']
      unfold Φ₁
      iintro ⟨⟨Hmid, Hacc, Hs⟩, ⟨%W, HO⟩, Hx, Hout⟩
      ihave Hx := (x_open m ρ c t) $$ Hx
      icases Hx with ⟨%g1, %hg1, Hx⟩
      iapply (body_later m (st0_0 t) (hstage0_0 ((cfg0.slots t 0).cast nbuf0_0)) (st0_1 t) (hstage0_1 ((cfg0.slots t 1).cast nbuf0_1)) c n (grid0.coords t) (hi.trans hn) hn15 g1 (by rw [hg1, hn]))
      isplitl [Hacc]; · iexact Hacc
      isplitl [Hx]; · iexact Hx
      iintro ⟨Hacc, Hx⟩
      isplitl [Hmid Hacc Hs]
      · isplitl [Hmid]; · iexact Hmid
        isplitl [Hacc]; · iexact Hacc
        iexact Hs
      isplitl [HO]
      · iapply (owes_close m ρ c t)
        rw [hn, owedAt_succ c hn15]
        iexists W; iexact HO
      isplitl [Hx]
      · iapply (x_close m ρ c t g1 hg1); iexact Hx
      iexact Hout

end Obligation

/-- The pipeline's obligation on the body, at every point. -/
theorem body_obligation (c : Dev nD) : BodyObligation (dats (F := F) m ρ 0 c) (defs₀ (F := F)) 𝒱₀ () Set.univ := fun t => by
  rw [bigSep_W0, bigSep_W0]
  exact sound_body m ρ c t

end Cert.KernelIdeal.Run

end
-- ==== Proof.IdealLaunch.lean ====
/-
The four devices run together: their shared semaphores are dealt out at launch, each device's sixteen blocks run as one
pipeline, and every execution ends with all semaphores at zero, the input unchanged and the result array at the value
`outAt`.
-/
module

public import proofs.«01_k».proof.Proof.IdealPipeline
public import Idealize.ShloMosaic.Lib.Pipeline.CollectiveSegs
public import Idealize.ShloMosaic.Lib.Pipeline.ValueKit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The shared semaphores at launch -/

/-- The kernel's own semaphores: three send, three receive. -/
abbrev osem : Fin 6 → SemLoc sig := fun k => .dma ⟨3 + k.val, by show 3 + k.val < 9; omega⟩

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 7 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- A device's duty tokens as minted: for slot `s` its barrier's duty `s`, the send semaphore's and the receive
    semaphore's only duty. -/
abbrev tokOf (x : Dev nD × Fin 3 × Fin 3) : GSem nD τ sig × ℕ × Fin 3 :=
  (kcell (x.1, if x.2.1 = 0 then 0 else if x.2.1 = 1 then kSend x.2.2 else kRecv x.2.2), 0, if x.2.1 = 0 then x.2.2 else 0)
theorem tokOf_injective : Function.Injective (tokOf : Dev nD × Fin 3 × Fin 3 → GSem nD τ sig × ℕ × Fin 3) := by
  rintro ⟨c, a⟩ ⟨c', a'⟩ h
  have h1 := kcell_injective (congrArg Prod.fst h)
  have h2 := congrArg (fun x : GSem nD τ sig × ℕ × Fin 3 => x.2.2) h
  have hc : c = c' := congrArg Prod.fst h1
  have hk := congrArg Prod.snd h1
  have : ∀ a a' : Fin 3 × Fin 3, (if a.1 = 0 then (0 : Fin 7) else if a.1 = 1 then kSend a.2 else kRecv a.2)
      = (if a'.1 = 0 then 0 else if a'.1 = 1 then kSend a'.2 else kRecv a'.2)
      → (if a.1 = 0 then a.2 else 0) = (if a'.1 = 0 then a'.2 else 0) → a = a' := by decide +kernel
  rw [hc, this a a' hk h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- Slot `s`'s duty tokens of device `c`'s own semaphores, -/
def slotToks (c : Dev nD) (s : Fin 3) : sProp 𝕄 :=
  iprop(dutyTok ER (barCell c) 0 s ∗ dutyTok ER (sendCell s c) 0 0 ∗ dutyTok ER (recvCell s c) 0 0)
/-- and those of the duties device `c` pays. -/
def slotPays (c : Dev nD) (s : Fin 3) : sProp 𝕄 :=
  iprop(dutyTok ER (barCell (src s c)) 0 s ∗ dutyTok ER (sendCell s c) 0 0 ∗ dutyTok ER (recvCell s (tgt s c)) 0 0)

/-- What the launch deals device `c`. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0))
    ∗ bigSep Finset.univ fun s : Fin 3 => slotToks c s)

omit [FloatOps F] in
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun s : Fin 3 => slotToks c s := by
    unfold ringToks; rw [bigSep_map, bigSep_univ_prod]
    refine bigSep_congr fun c _ => ?_
    rw [bigSep_univ_prod, bigSep_slots, ← bigSep_sep', ← bigSep_sep']
    refine bigSep_congr fun s _ => ?_
    unfold slotToks
    show iprop(dutyTok ER (kcell (c, 0)) 0 s ∗ dutyTok ER (kcell (c, kSend s)) 0 0 ∗ dutyTok ER (kcell (c, kRecv s)) 0 0) = _
    unfold kcell
    rw [csem_send s, csem_recv s, csem_bar]
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB]; · iexact HB
  iexact H

/-- A device's invariants, made of its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0))
          ∗ bigSep Finset.univ fun s : Fin 3 => slotToks c s) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- For slot `s`, what device `c` starts with but for the credit. -/
def slotGhost (c : Dev nD) (s : Fin 3) : sProp 𝕄 :=
  iprop(atPos ER (sendCell s c) 0 ∅ 0 ∗ atPos ER (recvCell s c) 0 ∅ 0 ∗ slotPays c s)
/-- What device `c` keeps of its own: its positions, and the duties it pays; -/
def linear (c : Dev nD) : sProp 𝕄 := iprop((bigSep Finset.univ fun k : Fin 7 => atPos ER (kcell (c, k)) 0 ∅ 0) ∗ bigSep Finset.univ fun s : Fin 3 => slotPays c s)
/-- with all the invariants. -/
def G' (c : Dev nD) : sProp 𝕄 := iprop(∃ K, records m K ∗ atPos ER (barCell c) 0 ∅ 0 ∗ slotGhost c 0 ∗ slotGhost c 1 ∗ slotGhost c 2)

theorem ghost_intro (K : Dev nD × Fin 7 → ℕ) (c : Dev nD) : iprop(records m K ∗ linear c) ⊢ G' m c := by
  unfold linear G' slotGhost
  rw [bigSep_fin7, bigSep_slots]
  iintro ⟨HR, ⟨HB, HS0, HS1, HS2, HV0, HV1, HV2⟩, Ht0, Ht1, Ht2⟩
  iexists K
  isplitl [HR]; · iexact HR
  isplitl [HB]; · iexact HB
  isplitl [HS0 HV0 Ht0]
  · isplitl [HS0]; · iexact HS0
    isplitl [HV0]; · iexact HV0
    iexact Ht0
  isplitl [HS1 HV1 Ht1]
  · isplitl [HS1]; · iexact HS1
    isplitl [HV1]; · iexact HV1
    iexact Ht1
  isplitl [HS2]; · iexact HS2
  isplitl [HV2]; · iexact HV2
  iexact Ht2

omit [FloatOps F] in
/-- The tokens dealt to the devices that pay: a barrier's for slot `s` to the device it is sent to on that slot, the receive
    semaphore's to the device that sends. -/
theorem toks_around : (bigSep Finset.univ fun c : Dev nD => bigSep Finset.univ fun s : Fin 3 => (slotToks c s : sProp 𝕄))
    ⊢ bigSep Finset.univ fun c : Dev nD => bigSep Finset.univ fun s : Fin 3 => slotPays c s := by
  rw [Pipeline.bigSep_univ_comm, Pipeline.bigSep_univ_comm (fun (c : Dev nD) (s : Fin 3) => (slotPays c s : sProp 𝕄))]
  refine bigSep_mono fun s _ => ?_
  unfold slotToks slotPays
  rw [bigSep_sep', bigSep_sep', bigSep_sep', bigSep_sep',
    bigSep_univ_equiv (move s).symm (fun c : Dev nD => (dutyTok ER (barCell c) 0 s : sProp 𝕄)),
    bigSep_univ_equiv (move s) (fun c : Dev nD => (dutyTok ER (recvCell s c) 0 0 : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0))
          ∗ bigSep Finset.univ fun s : Fin 3 => slotToks c s) : sProp 𝕄)
      ⊢ bigSep Finset.univ (G' m) := by
  rw [bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep']
    isplitl [Hat]; · iexact Hat
    iexact Htk

/-- All devices' semaphores together become the shared invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem owesRecv_apply (s s' : Fin 3) (d c : Dev nD) : owesRecv s d (recvCell s' c) () = if s' = s ∧ d = src s c then N else 0 := by
  unfold owesRecv
  rw [tallyAt_apply]
  refine if_congr ⟨fun h => ?_, fun h => ?_⟩ rfl rfl
  · have h2 := slotOf_recv s'
    have h3 : recvS s' = recvS s := SemLoc.dma.inj (congrArg Prod.snd h.1)
    rw [h3, slotOf_recv] at h2
    have h4 : c = tgt s d := congrArg (fun g : GSem nD τ sig => g.1.1) h.1
    exact ⟨(congrArg Prod.snd (Option.some.inj h2)).symm, by rw [h4, src_tgt]⟩
  · rw [h.1, h.2, tgt_src]; exact ⟨rfl, rfl⟩
theorem owesRecv_bar (s : Fin 3) (d c : Dev nD) : owesRecv s d (barCell c) () = 0 := by
  unfold owesRecv; rw [tallyAt_apply]; exact if_neg fun h => by have h' := congrArg Prod.snd h.1; cases h'
theorem owesBar_recv (s s' : Fin 3) (d c : Dev nD) : owesBar s d (recvCell s' c) () = 0 := by
  unfold owesBar; rw [tallyAt_apply]; exact if_neg fun h => by have h' := congrArg Prod.snd h.1; cases h'
theorem owesBar_apply (s : Fin 3) (d c : Dev nD) : owesBar s d (barCell c) () = if d = tgt s c then 1 else 0 := by
  unfold owesBar; rw [tallyAt_apply]
  refine if_congr ⟨fun h => ?_, fun h => ?_⟩ rfl rfl
  · have h4 : c = src s d := congrArg (fun g : GSem nD τ sig => g.1.1) h.1
    rw [h4, tgt_src]
  · rw [h, src_tgt]; exact ⟨rfl, rfl⟩

theorem O₀_apply (d : Dev nD) (g : GSem nD τ sig) :
    O₀ d g () = owesRecv 2 d g () + owesRecv 1 d g () + owesRecv 0 d g () + owesBar 2 d g () + owesBar 1 d g () + owesBar 0 d g () := by
  unfold O₀ O1 O2 owed0 owed1 owed2
  simp only [Pi.add_apply, Finsupp.add_apply, Pi.zero_apply, Finsupp.zero_apply, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  simp only [O₀_apply, owesRecv_bar, owesBar_apply, Nat.zero_add]
  revert c; decide

theorem launch_recv (s : Fin 3) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same]
  simp only [O₀_apply, owesBar_recv, owesRecv_apply, Nat.add_zero]
  have key : ∀ n : ℕ, (∑ d : Dev nD, ((if s = 2 ∧ d = src 2 c then n else 0) + (if s = 1 ∧ d = src 1 c then n else 0) + if s = 0 ∧ d = src 0 c then n else 0)) = n := by
    intro n
    fin_cases s <;> simp [Finset.sum_ite_eq']
  exact key N

omit [FloatOps F] in
theorem creds (c : Dev nD) :
    (Pipeline.launchCred O₀ c : sProp 𝕄)
      ⊢ iprop(cred (tallyAt (barCell c) () 3) ∗ cred (tallyAt (recvCell 0 c) () N) ∗ cred (tallyAt (recvCell 1 c) () N) ∗ cred (tallyAt (recvCell 2 c) () N)) := by
  unfold Pipeline.launchCred
  rw [bigSep_univ_at _ (SemLoc.reg barS), launch_bar]
  refine sep_mono_right ?_
  rw [← launch_recv, ← launch_recv, ← launch_recv]
  rw [bigSep_erase (show SemLoc.dma (recvS 0) ∈ Finset.univ.erase (SemLoc.reg barS) by decide)]
  refine sep_mono_right ?_
  rw [bigSep_erase (show SemLoc.dma (recvS 1) ∈ (Finset.univ.erase (SemLoc.reg barS)).erase (.dma (recvS 0)) by decide)]
  refine sep_mono_right ?_
  exact bigSep_elim (show SemLoc.dma (recvS 2) ∈ ((Finset.univ.erase (SemLoc.reg barS)).erase (.dma (recvS 0))).erase (.dma (recvS 1)) by decide)

/-! ## Entering and leaving -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1, H2⟩
  imodintro
  unfold start G' slotGhost slotStart slotPays
  isplitl
  · icases HG with ⟨%K, HR, HaB, ⟨HaS0, HaV0, HtB0, HtS0, HtV0⟩, ⟨HaS1, HaV1, HtB1, HtS1, HtV1⟩, ⟨HaS2, HaV2, HtB2, HtS2, HtV2⟩⟩
    iexists K
    isplitl [HR]; · iexact HR
    isplitl [HaB]; · iexact HaB
    isplitl [HaS0 HaV0 HtB0 HtS0 HtV0 H0]
    · isplitl [HaS0]; · iexact HaS0
      isplitl [HaV0]; · iexact HaV0
      isplitl [HtB0]; · iexact HtB0
      isplitl [HtV0]; · iexact HtV0
      isplitl [HtS0] <;> iassumption
    isplitl [HaS1 HaV1 HtB1 HtS1 HtV1 H1]
    · isplitl [HaS1]; · iexact HaS1
      isplitl [HaV1]; · iexact HaV1
      isplitl [HtB1]; · iexact HtB1
      isplitl [HtV1]; · iexact HtV1
      isplitl [HtS1] <;> iassumption
    isplitl [HaS2 HaV2 HtB2 HtS2 HtV2 H2]
    · isplitl [HaS2]; · iexact HaS2
      isplitl [HaV2]; · iexact HaV2
      isplitl [HtB2]; · iexact HtB2
      isplitl [HtV2]; · iexact HtV2
      isplitl [HtS2] <;> iassumption
    isplitl [HB] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₂ c from rfl, scopedRest0_eq, ownSems0_eq, unscopedSems0_eq]
  unfold Φ₂ closed
  iintro ⟨⟨HB, ⟨HS0, HV0⟩, ⟨HS1, HV1⟩, HS2, HV2⟩, Hr⟩
  isplitl [HB]; · iexact HB
  isplitl [HS0 HV0 HS1 HV1 HS2 HV2]
  · isplitl [HS0]; · iexact HS0
    isplitl [HS1]; · iexact HS1
    isplitl [HS2]; · iexact HS2
    isplitl [HV0]; · iexact HV0
    isplitl [HV1] <;> iassumption
  iexact Hr

theorem later_owedAt (c : Dev nD) : ∀ n, Later 0 (owedAt c n)
  | 0 => later_O₀ c
  | n + 1 => by
    by_cases h : n = 15
    · rw [h]; exact Later.zero 0
    · rw [owedAt_succ c h]; exact (later_owed0 c).mono (Nat.zero_le 1)

theorem waits (c : Dev nD) : (levAts L lv : sProp 𝕄) ⊢ Pipeline.cellsWaits cfgs (dats m ρ) () 0 c :=
  Pipeline.cellsWaits_intro cfgs (dats m ρ) () 0 c fun w s t =>
    mayWait_of_later c _ 0 (by fin_cases w <;> fin_cases s <;> exact Nat.le_refl 0) _ (later_owedAt c t.val)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all semaphores at zero, every fair execution of the four devices ends, each device's
    arrays at the named contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held; -/
theorem finalA_x (c : Dev nD) : finalA m ρ c (0 : Fin 2) = m ((c : Thread nD τ).loc main_arg0) :=
  (dats (F := F) m ρ 0 c).arrAt_in (0 : Fin 2) rfl _

/-- the result array holds `outAt`, written back whole after the last block. -/
theorem finalA_out (c : Dev nD) : finalA m ρ c (1 : Fin 2) = outAt m c := by
  unfold finalA
  refine (dats (F := F) m ρ 0 c).arrAt_eq_of_after_last 1 t0_15 (by decide +kernel) _ fun j => ?_
  blk_simp
  rfl

/-- Every execution ends with each device's result array holding `outAt` and its input as it was; -/
theorem run_value : θ_run defs (onTc (τ := τ) (main (F := F))) ⟨m, fun _ => 0, ρ⟩ (fun r => ∀ c : Dev nD,
    r.2.mem ((c.tc : Thread nD τ).loc main_v1) = outAt m c ∧ r.2.mem ((c.tc : Thread nD τ).loc main_arg0) = m ((c.tc : Thread nD τ).loc main_arg0)) :=
  (θ_run defs _ _).mono (fun _ h c => ⟨(h.1 c 1).trans (finalA_out m ρ c), (h.1 c 0).trans (finalA_x m ρ c)⟩) (run_main m ρ)

/-- and with every semaphore at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c 0).trans (finalA_x m ρ c), h.2⟩) (run_main m ρ)

end Cert.KernelIdeal.Run

end
-- ==== Proof.Argmax.lean ====
/-
  The greatest entry of a column of extended reals, and the first row that holds it: the mathematics of the problem,
  free of any program. `Top f S v i` says that among the rows `S` of the column `f` the greatest entry is `v` and the
  first row holding it is `i`. It determines `v` and `i` (`Top.unique`); two of them over two sets of rows make the one
  over the union by comparing values and, on a tie, rows (`Top.keep`, `Top.take`); and the folds the programs compute,
  the greatest value, the least of some words, the pair carried down a column, produce it.
-/
module

public import Idealize.ShloMosaic.Lib.SortNet.Extract
public import Idealize.ShloMosaic.PureOps.Ideal.Laws
public import Idealize.ShloMosaic.Lib.ValueIdx

@[expose] public section

noncomputable section

namespace Cert.Argmax

open Idealize.ShloMosaic

variable {f : ℕ → EReal} {S T : Set ℕ} {v w : EReal} {i j : ℕ}

/-- Among the rows `S` of the column `f`, the greatest entry is `v`, and `i` is the first row that holds it. -/
structure Top (f : ℕ → EReal) (S : Set ℕ) (v : EReal) (i : ℕ) : Prop where
  mem : i ∈ S
  val : f i = v
  le : ∀ j ∈ S, f j ≤ v
  first : ∀ j ∈ S, f j = v → i ≤ j

/-- The greatest entry of a set of rows and the first row holding it are unique. -/
theorem Top.unique (h : Top f S v i) (h' : Top f S w j) : v = w ∧ i = j := by
  have e : v = w := le_antisymm (h.val ▸ h'.le i h.mem) (h'.val ▸ h.le j h'.mem)
  subst e
  exact ⟨rfl, le_antisymm (h.first j h'.mem h'.val) (h'.first i h.mem h.val)⟩

/-- Of two sets of rows, the first's greatest entry is the union's when it is greater than the second's, or as great and
    found at no later row. -/
theorem Top.keep (h : Top f S v i) (h' : Top f T w j) (hk : w < v ∨ w = v ∧ i ≤ j) : Top f (S ∪ T) v i := by
  have hle : w ≤ v := hk.elim le_of_lt fun e => le_of_eq e.1
  refine ⟨Or.inl h.mem, h.val, ?_, ?_⟩
  · rintro k (hS | hT)
    · exact h.le k hS
    · exact (h'.le k hT).trans hle
  · rintro k (hS | hT) hv
    · exact h.first k hS hv
    · rcases hk with hlt | ⟨e, hij⟩
      · exact absurd (h'.le k hT) (by rw [hv]; exact not_le.2 hlt)
      · exact hij.trans (h'.first k hT (hv.trans e.symm))

/-- The same with the second's. -/
theorem Top.take (h : Top f S v i) (h' : Top f T w j) (hk : v < w ∨ v = w ∧ j ≤ i) : Top f (S ∪ T) w j := by
  rw [Set.union_comm]
  exact h'.keep h hk

/-! ## The pair as the programs carry it: the row number as an extended real -/

/-- `Top`, the row number given as an extended real. -/
def TopR (f : ℕ → EReal) (S : Set ℕ) (v x : EReal) : Prop := ∃ i : ℕ, x = ((i : ℝ) : EReal) ∧ Top f S v i

/-- There is only one such pair. -/
theorem TopR.unique {x y : EReal} (h : TopR f S v x) (h' : TopR f S w y) : v = w ∧ x = y := by
  obtain ⟨i, rfl, hi⟩ := h
  obtain ⟨j, rfl, hj⟩ := h'
  obtain ⟨e, rfl⟩ := hi.unique hj
  exact ⟨e, rfl⟩

/-- Row numbers compare as the extended reals they are given as. -/
theorem natReal_lt {i j : ℕ} : ((i : ℝ) : EReal) < ((j : ℝ) : EReal) ↔ i < j := by
  rw [EReal.coe_lt_coe_iff, Nat.cast_lt]

/-- Comparing a pair with a second one over later rows: the second's is taken when its value is greater. -/
theorem TopR.later {x y : EReal} (h : TopR f S v x) (h' : TopR f T w y) (hST : ∀ s ∈ S, ∀ t ∈ T, s ≤ t) :
    TopR f (S ∪ T) (if v < w then w else v) (if v < w then y else x) := by
  obtain ⟨i, rfl, hi⟩ := h
  obtain ⟨j, rfl, hj⟩ := h'
  by_cases hlt : v < w
  · rw [if_pos hlt, if_pos hlt]
    exact ⟨j, rfl, hi.take hj (.inl hlt)⟩
  · rw [if_neg hlt, if_neg hlt]
    exact ⟨i, rfl, hi.keep hj ((lt_or_eq_of_le (not_lt.1 hlt)).imp_right fun e => ⟨e, hST i hi.mem j hj.mem⟩)⟩

/-- Comparing two pairs over any sets of rows: the second's is taken when its value is greater, or equal and its row
    earlier. -/
theorem TopR.merge {x y : EReal} (h : TopR f S v x) (h' : TopR f T w y) :
    TopR f (S ∪ T) (if v < w ∨ w = v ∧ y < x then w else v) (if v < w ∨ w = v ∧ y < x then y else x) := by
  obtain ⟨i, rfl, hi⟩ := h
  obtain ⟨j, rfl, hj⟩ := h'
  by_cases hk : v < w ∨ w = v ∧ ((j : ℝ) : EReal) < ((i : ℝ) : EReal)
  · rw [if_pos hk, if_pos hk]
    exact ⟨j, rfl, hi.take hj (hk.imp_right fun e => ⟨e.1.symm, (natReal_lt.1 e.2).le⟩)⟩
  · rw [if_neg hk, if_neg hk]
    obtain ⟨h1, h2⟩ := not_or.1 hk
    exact ⟨i, rfl, hi.keep hj ((lt_or_eq_of_le (not_lt.1 h1)).imp_right fun e => ⟨e, not_lt.1 fun hl => h2 ⟨e, natReal_lt.2 hl⟩⟩)⟩

/-! ## A block of consecutive rows -/

/-- The fold of `max` over `n` values from the least element: above each of them, and one of them if there is any. -/
theorem fold_max_spec {n : ℕ} (x : Fin n → EReal) (hn : 0 < n) :
    (∀ r, x r ≤ Finset.univ.fold max ⊥ x) ∧ ∃ r, x r = Finset.univ.fold max ⊥ x := by
  have hle : ∀ r, x r ≤ Finset.univ.fold max ⊥ x := fun r =>
    (Finset.le_fold_max _).2 (.inr ⟨r, Finset.mem_univ r, le_rfl⟩)
  refine ⟨hle, ?_⟩
  rcases (Finset.le_fold_max (s := Finset.univ) (f := x) (b := ⊥) _).1 le_rfl with h | ⟨r, _, h⟩
  · exact ⟨⟨0, hn⟩, le_antisymm (hle _) (h.trans bot_le)⟩
  · exact ⟨r, le_antisymm (hle r) h⟩

/-- The signed fold of `min` over words: below the start and each word, and one of them. -/
theorem fold_min_spec {n : ℕ} (g : Fin n → BitVec 32) (z : BitVec 32) :
    let m := Finset.univ.fold IntOp.minsi z g
    (∀ r, m.toInt ≤ (g r).toInt) ∧ (m = z ∨ ∃ r, m = g r) := by
  have key : ∀ s : Finset (Fin n), (∀ r ∈ s, (s.fold IntOp.minsi z g).toInt ≤ (g r).toInt)
      ∧ (s.fold IntOp.minsi z g = z ∨ ∃ r, s.fold IntOp.minsi z g = g r) := by
    intro s
    induction s using Finset.cons_induction with
    | empty => exact ⟨fun r hr => absurd hr (Finset.notMem_empty r), .inl Finset.fold_empty⟩
    | cons a s ha ih =>
      rw [Finset.fold_cons]
      refine ⟨fun r hr => ?_, ?_⟩
      · rw [SortNet.toInt_minsi]
        rcases Finset.mem_cons.1 hr with rfl | hs
        · exact min_le_left _ _
        · exact (min_le_right _ _).trans (ih.1 r hs)
      · unfold IntOp.minsi
        split
        · exact .inr ⟨a, rfl⟩
        · exact ih.2
  exact ⟨fun r => (key Finset.univ).1 r (Finset.mem_univ r), (key Finset.univ).2⟩

/-- The word of a small number reads as that number. -/
theorem toInt_ofNat_small {k : ℕ} (h : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_cond, e, if_pos (by omega)]

/-- The greatest of `n` values, and the least row number among those of equal value (the others counting as a number no
    row has): the word is the first row holding the greatest value. -/
theorem fold_first {n : ℕ} (hn : 0 < n) (hs : n < 2 ^ 30) (x : Fin n → EReal) (g : Fin n → BitVec 32)
    (hg : ∀ r, g r = if x r = Finset.univ.fold max ⊥ x then BitVec.ofNat 32 r.val else 1073741824#32) :
    ∃ k : Fin n, Finset.univ.fold IntOp.minsi 2147483647#32 g = BitVec.ofNat 32 k.val
      ∧ x k = Finset.univ.fold max ⊥ x ∧ ∀ r, x r = Finset.univ.fold max ⊥ x → k.val ≤ r.val := by
  obtain ⟨hle, r₀, h₀⟩ := fold_max_spec x hn
  obtain ⟨hmin, hmem⟩ := fold_min_spec g 2147483647#32
  have b₀ := hmin r₀
  rw [hg r₀, if_pos h₀, toInt_ofNat_small (by have := r₀.isLt; omega)] at b₀
  have hr₀ := r₀.isLt
  rcases hmem with e | ⟨k, e⟩
  · rw [e] at b₀
    have : (2147483647#32 : BitVec 32).toInt = 2147483647 := by decide
    omega
  · by_cases hk : x k = Finset.univ.fold max ⊥ x
    · rw [hg k, if_pos hk] at e
      refine ⟨k, e, hk, fun r hr => ?_⟩
      have b := hmin r
      have := r.isLt
      have := k.isLt
      rw [e, hg r, if_pos hr, toInt_ofNat_small (by omega), toInt_ofNat_small (by omega)] at b
      omega
    · rw [hg k, if_neg hk] at e
      rw [e] at b₀
      have : (1073741824#32 : BitVec 32).toInt = 1073741824 := by decide
      omega

/-- So the block of `n` rows from row `a` on has that value and that row as its greatest entry and first row. -/
theorem top_block {n : ℕ} (a : ℕ) (x : Fin n → EReal) (hx : ∀ r, x r = f (a + r.val)) {k : Fin n} (hk : x k = v)
    (hle : ∀ r, x r ≤ v) (hfirst : ∀ r, x r = v → k.val ≤ r.val) : Top f (Set.Ico a (a + n)) v (a + k.val) := by
  refine ⟨⟨Nat.le_add_right _ _, Nat.add_lt_add_left k.isLt a⟩, (hx k).symm.trans hk, ?_, ?_⟩
  · rintro j ⟨h1, h2⟩
    have e := hx ⟨j - a, by omega⟩
    rw [show a + (⟨j - a, by omega⟩ : Fin n).val = j from Nat.add_sub_cancel' h1] at e
    exact e ▸ hle _
  · rintro j ⟨h1, h2⟩ hv
    have e := hx ⟨j - a, by omega⟩
    rw [show a + (⟨j - a, by omega⟩ : Fin n).val = j from Nat.add_sub_cancel' h1] at e
    have := hfirst _ (e.trans hv)
    show a + k.val ≤ j
    have : k.val ≤ j - a := this
    omega

/-! ## The pair carried down a column -/

/-- One step of an arg-max over rows: the carried pair stays when its value is greater, its row when moreover on a tie it
    is the smaller. -/
def step (a b : EReal × BitVec 32) : EReal × BitVec 32 :=
  (if b.1 < a.1 then a.1 else b.1, if b.1 < a.1 ∨ a.1 = b.1 ∧ a.2.toInt < b.2.toInt then a.2 else b.2)

/-- A step with the entry of row `r`. -/
theorem step_top {r : ℕ} (hi : i < 2 ^ 31) (hr : r < 2 ^ 31) (h : Top f S v i) :
    ∃ v' i', i' < 2 ^ 31 ∧ step (v, BitVec.ofNat 32 i) (f r, BitVec.ofNat 32 r) = (v', BitVec.ofNat 32 i')
      ∧ Top f (S ∪ {r}) v' i' := by
  have h' : Top f {r} (f r) r := ⟨rfl, rfl, fun j hj => le_of_eq (congrArg f hj), fun j hj _ => le_of_eq hj.symm⟩
  unfold step
  dsimp only
  rw [toInt_ofNat_small hi, toInt_ofNat_small hr]
  rcases lt_trichotomy (f r) v with hlt | heq | hgt
  · refine ⟨v, i, hi, ?_, h.keep h' (.inl hlt)⟩
    rw [if_pos hlt, if_pos (.inl hlt)]
  · by_cases hir : i < r
    · refine ⟨v, i, hi, ?_, h.keep h' (.inr ⟨heq, hir.le⟩)⟩
      rw [if_neg (by rw [heq]; exact lt_irrefl _), if_pos (.inr ⟨heq.symm, by exact_mod_cast hir⟩), heq]
    · refine ⟨f r, r, hr, ?_, h.take h' (.inr ⟨heq.symm, not_lt.1 hir⟩)⟩
      rw [if_neg (by rw [heq]; exact lt_irrefl _), if_neg]
      rintro (hl | ⟨_, hl⟩)
      · rw [heq] at hl; exact lt_irrefl _ hl
      · exact hir (by exact_mod_cast hl)
  · refine ⟨f r, r, hr, ?_, h.take h' (.inl hgt)⟩
    rw [if_neg (not_lt.2 hgt.le), if_neg]
    rintro (hl | ⟨he, _⟩)
    · exact lt_asymm hgt hl
    · rw [he] at hgt; exact lt_irrefl _ hgt

/-- Steps down a list of rows. -/
theorem foldl_top (l : List ℕ) (hl : ∀ r ∈ l, r < 2 ^ 31) : ∀ {S : Set ℕ} {v : EReal} {i : ℕ}, i < 2 ^ 31 → Top f S v i →
    ∃ v' i', i' < 2 ^ 31 ∧ l.foldl (fun a r => step a (f r, BitVec.ofNat 32 r)) (v, BitVec.ofNat 32 i) = (v', BitVec.ofNat 32 i')
      ∧ Top f (S ∪ {r | r ∈ l}) v' i' := by
  induction l with
  | nil => intro S v i hi h; exact ⟨v, i, hi, rfl, by simpa using h⟩
  | cons r l ih =>
    intro S v i hi h
    obtain ⟨v₁, i₁, hi₁, e₁, h₁⟩ := step_top (r := r) hi (hl r List.mem_cons_self) h
    obtain ⟨v₂, i₂, hi₂, e₂, h₂⟩ := ih (fun s hs => hl s (List.mem_cons_of_mem r hs)) hi₁ h₁
    refine ⟨v₂, i₂, hi₂, ?_, ?_⟩
    · rw [List.foldl_cons, e₁, e₂]
    · have e : S ∪ {s | s ∈ r :: l} = S ∪ {r} ∪ {s | s ∈ l} := by
        ext s
        simp only [Set.mem_union, Set.mem_setOf_eq, Set.mem_singleton_iff, List.mem_cons, or_assoc]
      rw [e]
      exact h₂

/-- Down rows `0 … N`, from the least value and row number zero: the greatest entry and the first row that holds it. -/
theorem foldl_rows (N : ℕ) (hN : N < 2 ^ 30) :
    ∃ v i, i < 2 ^ 31 ∧ (List.range (N + 1)).foldl (fun a r => step a (f r, BitVec.ofNat 32 r)) (⊥, 0#32) = (v, BitVec.ofNat 32 i)
      ∧ Top f (Set.Ico 0 (N + 1)) v i := by
  have e₀ : step (⊥, 0#32) (f 0, BitVec.ofNat 32 0) = (f 0, BitVec.ofNat 32 0) := by
    unfold step
    dsimp only
    rw [if_neg not_lt_bot, if_neg]
    rintro (hl | ⟨_, hl⟩)
    · exact not_lt_bot hl
    · exact lt_irrefl _ hl
  have h₀ : Top f {0} (f 0) 0 := ⟨rfl, rfl, fun j hj => le_of_eq (congrArg f hj), fun j hj _ => le_of_eq hj.symm⟩
  obtain ⟨v, i, hi, e, h⟩ := foldl_top (f := f) ((List.range N).map Nat.succ)
    (fun r hr => by
      obtain ⟨s, hs, rfl⟩ := List.mem_map.1 hr
      have := List.mem_range.1 hs
      omega) (by norm_num) h₀
  refine ⟨v, i, hi, ?_, ?_⟩
  · rw [List.range_succ_eq_map, List.foldl_cons, e₀, e]
  · have es : Set.Ico 0 (N + 1) = {0} ∪ {r | r ∈ (List.range N).map Nat.succ} := by
      ext s
      simp only [Set.mem_Ico, Nat.zero_le, true_and, Set.mem_union, Set.mem_singleton_iff, Set.mem_setOf_eq, List.mem_map,
        List.mem_range]
      constructor
      · intro hs
        rcases s with _ | s
        · exact .inl rfl
        · exact .inr ⟨s, Nat.lt_of_succ_lt_succ hs, rfl⟩
      · rintro (rfl | ⟨s, hs, rfl⟩)
        · exact Nat.succ_pos N
        · exact Nat.succ_lt_succ hs
    rw [es]
    exact h

/-! ## The columns of the array -/

/-- Column `k` of an array of 16384 rows, past its last row the least value. -/
def colOf (X : (⟨2, ![16384, 1024]⟩ : Shape).Idx → EReal) (k : Fin 1024) : ℕ → EReal :=
  fun n => if h : n < 16384 then X (ValueIdx.ix2 ⟨n, h⟩ k) else ⊥

theorem colOf_apply (X : (⟨2, ![16384, 1024]⟩ : Shape).Idx → EReal) (k : Fin 1024) (r : Fin 16384) :
    colOf X k r.val = X (ValueIdx.ix2 r k) := by
  unfold colOf
  rw [dif_pos r.isLt]

end Cert.Argmax

end
-- ==== Proof.IdealValue.lean ====
/-
  What the kernel computes, over the extended reals. A block's row maxima and row numbers (`block_top`); the accumulator
  after each block (`accAt_top`); and the result: on every device row 0 of `outAt` holds, column by column, the greatest
  entry of the whole array and row 1 the first row that holds it (`outAt_top`). Each is stated with `Argmax.TopR` of the
  array's column and the range of rows covered so far.
-/
module

public import proofs.«01_k».proof.Proof.Argmax
public import proofs.«01_k».proof.Proof.IdealBuffers
public import Idealize.ShloMosaic.Lib.Pipeline.ValueKit
public import Idealize.ShloMosaic.Lib.Layout
public import Idealize.ShloMosaic.PureOps.Reduce

@[expose] public section

noncomputable section

namespace Cert.KernelIdeal.Run

open Cert.KernelIdeal Cert.KernelIdeal.Gen Cert.Argmax
open Idealize.ShloMosaic hiding ix1 ix2 ix3
open Idealize.ShloMosaic.TcCoe
open Idealize.ShloMosaic.ValueIdx
open Idealize.SL Idealize.SL.Sem

/-! ## One block -/

/-- The word of the reductions' start is the least extended real. -/
theorem ofBits_negInf : FloatOps.ofBits (F := Ideal) .f32 0xFF800000#32 = ⊥ := by
  show Ideal.ofBits .f32 0xFF800000#32 = ⊥
  simp [Ideal.ofBits, Ideal.ieee]

/-- A cast of a vector to its own shape changes nothing. -/
theorem cast_same {α : Type} {s : Shape} (v : s.Idx → α) (h : s.ShapeCasts s) : shapeCast s v h = v :=
  funext fun i => congrArg v (Shape.reshapeEquiv_self h i)

/-- The block as loaded. -/
theorem pay1_eq (x : Vec Ideal S256x1024 .f32) : k0_pay1 x = x := cast_same x _

/-- The entries that the reduction of column `k` runs over are the block's rows there. -/
theorem lift_rows (k : Fin 1024) (r : Fin 256) : reduces_S256x1024_S1024.lift (ix1 k) r = ix2 r k :=
  funext fun b => match b with | ⟨0, _⟩ => rfl | ⟨1, _⟩ => rfl

/-- The block's maximum in column `k`. -/
theorem pay2_apply (x : Vec Ideal S256x1024 .f32) (k : Fin 1024) :
    k0_pay2 x (ix2 0 k) = Finset.univ.fold max ⊥ fun r : Fin 256 => (x (ix2 r k) : EReal) := by
  have e : k0_pay2 x = shapeCast S1x1024
      (multiReduction .maximumf [0] S1024 (k0_pay1 x) 0xFF800000#32 reduces_S256x1024_S1024 (.inl rfl) rfl) shapeCasts_S1024_S1x1024 := rfl
  refine (congrFun e (ix2 0 k)).trans ((shapeCast_a_1a_apply (a := 1024) _ shapeCasts_S1024_S1x1024 0 k).trans ?_)
  refine (Ideal.multiReduction_maximumf_single (k0_pay1 x) 0xFF800000#32 reduces_S256x1024_S1024 (.inl rfl) rfl (ix1 k)).trans ?_
  rw [ofBits_negInf, pay1_eq]
  exact congrArg (fun y : Fin 256 → EReal => Finset.univ.fold max ⊥ y) (funext fun r => congrArg x (lift_rows k r))

/-- The word the block's row numbers are the least of. -/
def rowWord (x : Vec Ideal S256x1024 .f32) (k : Fin 1024) (r : Fin 256) : BitVec 32 :=
  if (x (ix2 r k) : EReal) = Finset.univ.fold max ⊥ (fun r : Fin 256 => (x (ix2 r k) : EReal)) then BitVec.ofNat 32 r.val
  else 1073741824#32

/-- The block's row number in column `k`: the first row of the maximum, counted from the array's first row. -/
theorem pay3_apply (a b : BitVec 32) (x : Vec Ideal S256x1024 .f32) (k : Fin 1024) :
    k0_pay3 a b x (ix2 0 k)
      = (((Finset.univ.fold IntOp.minsi 2147483647#32 (rowWord x k) + (b * 4096#32 + a * 256#32)).toInt : ℝ) : EReal) := by
  have e₀ : k0_pay3 a b x (ix2 0 k) = (((multiReductionI .minsi [0] S1024
      (select (cmpf .oeq (k0_pay1 x) (broadcastTo S256x1024 (k0_pay2 x) broadcasts_S1x1024_S256x1024))
        (iota .tc S256x1024 32 [0] iota_S256x1024_d0_w32) (broadcast S256x1024 1073741824#32))
      2147483647#32 reduces_S256x1024_S1024 rfl (ix1 k) + (b * 4096#32 + a * 256#32)).toInt : ℝ) : EReal) :=
    congrArg (fun w : BitVec 32 => (((w + (b * 4096#32 + a * 256#32)).toInt : ℝ) : EReal))
      (shapeCast_a_1a_apply (a := 1024) _ shapeCasts_S1024_S1x1024 0 k)
  have e : (Finset.univ : Finset (Fin 256)).fold IntOp.minsi 2147483647#32 (rowWord x k)
      = (Finset.univ : Finset (Fin (S256x1024.size 0))).fold IKind.minsi.op 2147483647#32
        ((select (cmpf .oeq (k0_pay1 x) (broadcastTo S256x1024 (k0_pay2 x) broadcasts_S1x1024_S256x1024))
          (iota .tc S256x1024 32 [0] iota_S256x1024_d0_w32) (broadcast S256x1024 1073741824#32)) ∘ reduces_S256x1024_S1024.lift (ix1 k)) := by
    refine congrArg (Finset.univ.fold IntOp.minsi 2147483647#32) (funext fun r => ?_)
    show rowWord x k r = Scalar.select (Ideal.cmp .oeq (k0_pay1 x (reduces_S256x1024_S1024.lift (ix1 k) r))
      (broadcastTo S256x1024 (k0_pay2 x) broadcasts_S1x1024_S256x1024 (reduces_S256x1024_S1024.lift (ix1 k) r)))
      (BitVec.ofNat 32 _) 1073741824#32
    rw [lift_rows, pay1_eq]
    have eb : broadcastTo S256x1024 (k0_pay2 x) broadcasts_S1x1024_S256x1024 (ix2 r k) = k0_pay2 x (ix2 0 k) :=
      congrArg (k0_pay2 x) (funext fun b => match b with | ⟨0, _⟩ => rfl | ⟨1, _⟩ => rfl)
    rw [eb, pay2_apply]
    unfold rowWord Scalar.select Ideal.cmp
    by_cases h : (x (ix2 r k) : EReal) = Finset.univ.fold max ⊥ (fun r : Fin 256 => (x (ix2 r k) : EReal))
    · rw [if_pos h, if_pos (by simp [h])]
      simp
    · rw [if_neg h, if_neg (by simp [h])]
  exact e₀.trans (congrArg (fun w : BitVec 32 => (((w + (b * 4096#32 + a * 256#32)).toInt : ℝ) : EReal))
    ((multiReductionI_eq_fold .minsi _ _ reduces_S256x1024_S1024 rfl (ix1 k)).trans
      ((reduces_S256x1024_S1024.fold_filter_drop_single _ _ _ _).trans e.symm)))

/-- A block whose column `k` is the rows from `c * 4096 + n * 256` on of the column `f`: the maximum and the row number. -/
theorem block_top (f : ℕ → EReal) (c n : ℕ) (hc : c < 4) (hn : n < 16) (x : Vec Ideal S256x1024 .f32) (k : Fin 1024)
    (hx : ∀ r : Fin 256, x (ix2 r k) = f (c * 4096 + n * 256 + r.val)) :
    TopR f (Set.Ico (c * 4096 + n * 256) (c * 4096 + n * 256 + 256)) (k0_pay2 x (ix2 0 k))
      (k0_pay3 (BitVec.ofNat 32 n) (BitVec.ofNat 32 c) x (ix2 0 k)) := by
  obtain ⟨i, e, hv, hfirst⟩ := fold_first (n := 256) (by norm_num) (by norm_num) (fun r => (x (ix2 r k) : EReal)) (rowWord x k)
    (fun r => rfl)
  refine ⟨c * 4096 + n * 256 + i.val, ?_, ?_⟩
  · rw [pay3_apply, e]
    have hi := i.isLt
    rw [show BitVec.ofNat 32 i.val + (BitVec.ofNat 32 c * 4096#32 + BitVec.ofNat 32 n * 256#32)
        = BitVec.ofNat 32 (c * 4096 + n * 256 + i.val) from by
      rw [BitVec.ofNat_add, BitVec.ofNat_add, BitVec.ofNat_mul, BitVec.ofNat_mul, BitVec.add_comm],
      toInt_ofNat_small (by omega), Int.cast_natCast]
  · rw [pay2_apply]
    exact top_block _ _ hx hv (fold_max_spec _ (by norm_num)).1 hfirst

/-! ## The accumulator -/

/-- Choosing by "greater". -/
theorem select_ogt (u v p q : Ideal .f32) :
    Scalar.select (FloatOps.cmpf .ogt u v) p q = if (v : EReal) < u then p else q := by
  rw [Ideal.cmpf_def]
  unfold Scalar.select Ideal.cmp
  by_cases h : (v : EReal) < u
  · rw [if_pos h, if_pos (by simp [h])]
  · rw [if_neg h, if_neg (by simp [h])]

/-- Choosing by "greater, or as great and of a smaller row number". -/
theorem select_better (u v x y p q : Ideal .f32) :
    Scalar.select (IntOp.ori (FloatOps.cmpf .ogt u v) (IntOp.andi (FloatOps.cmpf .oeq u v) (FloatOps.cmpf .olt x y))) p q
      = if (v : EReal) < u ∨ (u : EReal) = v ∧ (x : EReal) < y then p else q := by
  simp only [Ideal.cmpf_def, Ideal.cmp, IntOp.ori, IntOp.andi, Scalar.select]
  by_cases h1 : (v : EReal) < u <;> by_cases h2 : (u : EReal) = v <;> by_cases h3 : (x : EReal) < y <;> simp [h1, h2, h3]

/-- The accumulator's value after a further block, column `k`; -/
theorem pay7_apply (x : Vec Ideal S256x1024 .f32) (a b : Vec Ideal S1x1024 .f32) (k : Fin 1024) :
    k0_pay7 x a b (ix2 0 k) = if (a (ix2 0 k) : EReal) < k0_pay2 x (ix2 0 k) then k0_pay2 x (ix2 0 k) else b (ix2 0 k) := by
  unfold k0_pay7
  rw [cast_same, select_apply]
  unfold k0_pay6
  rw [cmpf_apply, select_ogt]

/-- and its row number. -/
theorem pay8_apply (i d : BitVec 32) (x : Vec Ideal S256x1024 .f32) (a b : Vec Ideal S1x1024 .f32) (k : Fin 1024) :
    k0_pay8 i d x a b (ix2 0 k) = if (a (ix2 0 k) : EReal) < k0_pay2 x (ix2 0 k) then k0_pay3 i d x (ix2 0 k) else b (ix2 0 k) := by
  unfold k0_pay8
  rw [cast_same, select_apply]
  unfold k0_pay6
  rw [cmpf_apply, select_ogt]

/-- The first block's maxima and row numbers are stored as they are; -/
theorem pay4_eq (x : Vec Ideal S256x1024 .f32) : k0_pay4 x = k0_pay2 x := by
  unfold k0_pay4
  dsimp only
  rw [cast_same]

theorem pay5_eq (a b : BitVec 32) (x : Vec Ideal S256x1024 .f32) : k0_pay5 a b x = k0_pay3 a b x := by
  unfold k0_pay5
  dsimp only
  rw [cast_same]

/-- and the accumulator is sent as it is. -/
theorem pay13_eq (x : Vec Ideal S2x1024 .f32) : k0_pay13 x = x := by
  unfold k0_pay13
  dsimp only
  rw [cast_same]

/-- A device's place as the kernel computes it is its number. -/
theorem wd_eq (c : Dev nD) : wd c = BitVec.ofNat 32 c.val := by revert c; decide

variable (m : (ℓ : Loc nD τ sig) → Buf (Elt Ideal) ℓ) (X : (⟨2, ![16384, 1024]⟩ : Shape).Idx → EReal)

/-- Block `n` of device `c` in its argument. -/
theorem xb_read (c : Dev nD) (n : ℕ) (hn : n < 16) (r : Fin 256) (k : Fin 1024) :
    xb m c n (ix2 r k) = m ((c.tc : Thread nD τ).loc main_arg0) (ix2 ⟨n * 256 + r.val, by have := r.isLt; omega⟩ k) := by
  have hi : win0_0.index ⟨n % 16, blk_lt n⟩ 0 = n ∧ win0_0.index ⟨n % 16, blk_lt n⟩ 1 = 0 := by
    interval_cases n <;> decide
  unfold xb iblk
  rw [View.read_apply]
  show V m c main_arg0 _ = m (c.tc.loc main_arg0) _
  unfold V
  refine congrArg (m ((c.tc : Thread nD τ).loc main_arg0)) (funext fun b => Fin.ext ?_)
  match b with
  | ⟨0, _⟩ => show win0_0.index ⟨n % 16, blk_lt n⟩ 0 * 256 + 1 * r.val = n * 256 + r.val; rw [hi.1]; omega
  | ⟨1, _⟩ => show win0_0.index ⟨n % 16, blk_lt n⟩ 1 * 1024 + 1 * k.val = k.val; rw [hi.2]; omega

/-- The devices' arguments are the four blocks of rows of `X`. -/
def Cut : Prop :=
  ∀ c : Dev nD, m ((c.tc : Thread nD τ).loc main_arg0) = Layout.block ⟨2, ![4096, 1024]⟩ ⟨2, ![16384, 1024]⟩ 0 4 c X

section
variable (hX : Cut m X)
include hX

/-- Block `n` of device `c` in the array its argument is a block of: the rows from `c * 4096 + n * 256` on. -/
theorem xb_apply (c : Dev nD) (n : ℕ) (hn : n < 16) (r : Fin 256) (k : Fin 1024) :
    xb m c n (ix2 r k) = colOf X k (c.val * 4096 + n * 256 + r.val) := by
  have hc : c.val < 4 := c.isLt
  have hr := r.isLt
  rw [xb_read m c n hn r k, hX c, Layout.block_apply,
    show colOf X k (c.val * 4096 + n * 256 + r.val) = X (ix2 ⟨c.val * 4096 + n * 256 + r.val, by omega⟩ k) from
      colOf_apply X k ⟨c.val * 4096 + n * 256 + r.val, by omega⟩]
  refine congrArg X (funext fun b => Fin.ext ?_)
  match b with
  | ⟨0, _⟩ => exact (Nat.add_assoc _ _ _).symm
  | ⟨1, _⟩ => rfl

/-- After blocks `0 … n` the accumulator holds the greatest entry of their rows, and its row. -/
theorem accAt_top (c : Dev nD) (k : Fin 1024) (n : ℕ) (hn : n < 16) (b : ℕ) (hb : b = c.val * 4096 + n * 256 + 256) :
    TopR (colOf X k) (Set.Ico (c.val * 4096) b) ((accAt m c n).1 (ix2 0 k)) ((accAt m c n).2 (ix2 0 k)) := by
  induction n generalizing b with
  | zero =>
    have h := block_top (colOf X k) c.val 0 c.isLt hn (xb m c 0) k fun r => xb_apply m X hX c 0 hn r k
    have e : c.val * 4096 + 0 * 256 = c.val * 4096 := by rw [Nat.zero_mul, Nat.add_zero]
    rw [← hb, e] at h
    rw [accAt]
    dsimp only
    rw [pay4_eq, pay5_eq, wd_eq]
    generalize c.val * 4096 = a at h ⊢
    exact h
  | succ n ih =>
    have h := block_top (colOf X k) c.val (n + 1) c.isLt hn (xb m c (n + 1)) k fun r => xb_apply m X hX c (n + 1) hn r k
    rw [← hb] at h
    have hl : c.val * 4096 ≤ c.val * 4096 + (n + 1) * 256 := Nat.le_add_right _ _
    have hr : c.val * 4096 + (n + 1) * 256 ≤ b := by rw [hb]; exact Nat.le_add_right _ _
    have hm : c.val * 4096 + (n + 1) * 256 = c.val * 4096 + n * 256 + 256 := by omega
    have hacc := ih (by omega) _ hm
    rw [accAt]
    dsimp only
    rw [pay7_apply, pay8_apply, wd_eq]
    clear hm hb
    generalize c.val * 4096 + (n + 1) * 256 = d at h hacc hl hr
    generalize c.val * 4096 = a at hacc hl ⊢
    rw [← Set.Ico_union_Ico_eq_Ico hl hr]
    exact hacc.later h fun s hs t ht => hs.2.le.trans ht.1

/-! ## The exchange -/

omit hX in
/-- Row 0 of two rows put together is the first, -/
theorem rows_zero (a b : S1x1024.Idx → Elt Ideal .f32) (k : Fin 1024) : rows a b (ix2 0 k) = a (ix2 0 k) := rfl
omit hX in
/-- and row 1 the second. -/
theorem rows_one (a b : S1x1024.Idx → Elt Ideal .f32) (k : Fin 1024) : rows a b (ix2 1 k) = b (ix2 0 k) := rfl

/-- The rows of device `c`. -/
def range (c : Dev nD) : Set ℕ := Set.Ico (c.val * 4096) (c.val * 4096 + 15 * 256 + 256)

/-- A device's own pair, all its blocks done. -/
theorem own_top (c : Dev nD) (k : Fin 1024) :
    TopR (colOf X k) (range c) ((accAt m c 15).1 (ix2 0 k)) ((accAt m c 15).2 (ix2 0 k)) :=
  accAt_top m X hX c k 15 (by norm_num) _ rfl

/-- What device `c` sends: its own rows' greatest entries and their rows. -/
theorem sent_top (c : Dev nD) (k : Fin 1024) :
    TopR (colOf X k) (range c) (sent m c (ix2 0 k)) (sent m c (ix2 1 k)) := by
  have h := own_top m X hX c k
  unfold sent accRows
  rw [pay13_eq, rows_zero, rows_one]
  exact h

omit hX in
/-- Merging two pairs by the kernel's comparison, at an entry. -/
theorem merge_top {f : ℕ → EReal} {S T : Set ℕ} (a b p q : FVec Ideal S1x1024 .f32) (i : S1x1024.Idx)
    (h : TopR f S (a i) (b i)) (g : TopR f T (p i) (q i)) :
    TopR f (S ∪ T) (select (ori (cmpf .ogt p a) (andi (cmpf .oeq p a) (cmpf .olt q b))) p a i)
      (select (ori (cmpf .ogt p a) (andi (cmpf .oeq p a) (cmpf .olt q b))) q b i) := by
  have e (u v : FVec Ideal S1x1024 .f32) : select (ori (cmpf .ogt p a) (andi (cmpf .oeq p a) (cmpf .olt q b))) u v i
      = if (a i : EReal) < p i ∨ (p i : EReal) = a i ∧ (q i : EReal) < b i then u i else v i :=
    select_better (p i) (a i) (q i) (b i) (u i) (v i)
  rw [e, e]
  exact h.merge g

omit hX in
/-- A received row, cast to a plain row, at column `k`. -/
theorem cast_got (c : Dev nD) (s : Fin 3) (r : Fin 2) (k : Fin 1024) :
    shapeCast S1x1024 (got m c s r) shapeCasts_S1x1x1024_S1x1024 (ix2 0 k) = sent m (src s c) (ix2 r k) :=
  shapeCast_1ab_ab_apply (a := 1) (b := 1024) (got m c s r) shapeCasts_S1x1x1024_S1x1024 0 k

/-- A received pair: the sender's rows' greatest entry and its row. -/
theorem got_top (c : Dev nD) (s : Fin 3) (k : Fin 1024) :
    TopR (colOf X k) (range (src s c))
      (shapeCast S1x1024 (got m c s 0) shapeCasts_S1x1x1024_S1x1024 (ix2 0 k))
      (shapeCast S1x1024 (got m c s 1) shapeCasts_S1x1x1024_S1x1024 (ix2 0 k)) := by
  rw [cast_got, cast_got]
  exact sent_top m X hX (src s c) k

/-- After the two pairs merged before the last one. -/
theorem outAB_top (c : Dev nD) (k : Fin 1024) :
    TopR (colOf X k) (range c ∪ range (src 0 c) ∪ range (src 1 c)) (outA m c (ix2 0 k)) (outB m c (ix2 0 k)) :=
  merge_top _ _ _ _ _ (merge_top _ _ _ _ _ (own_top m X hX c k) (got_top m X hX c 0 k)) (got_top m X hX c 1 k)

omit hX in
/-- The four devices' rows are all the rows. -/
theorem ranges (c : Dev nD) : range c ∪ range (src 0 c) ∪ range (src 1 c) ∪ range (src 2 c) = Set.Ico 0 16384 := by
  ext x
  simp only [range, src, Set.mem_union, Set.mem_Ico]
  have hc : c.val < 4 := c.isLt
  omega

/-- The result: the greatest entry of each column and the first row that holds it. -/
theorem outAt_top (c : Dev nD) (k : Fin 1024) :
    TopR (colOf X k) (Set.Ico 0 16384) (outAt m c (ix2 0 k)) (outAt m c (ix2 1 k)) := by
  rw [← ranges c]
  unfold outAt
  rw [rows_zero, rows_one]
  exact merge_top _ _ _ _ _ (outAB_top m X hX c k) (got_top m X hX c 2 k)

end

end Cert.KernelIdeal.Run
-- ==== Proof.RefValue.lean ====
/-
  The reference: its run, and what it computes. On one device, from any memory, it ends with the result buffer holding
  `refOut` of the argument and the argument as it was (`run_main`). Row 0 of `refOut X` holds, column by column, the
  greatest entry of `X`, and row 1 the first row that holds it (`refOut_top`).
-/
module

public import proofs.«01_k».proof.Proof.Argmax
public import proofs.«01_k».proof.Proof.Gen.ReferenceIdeal
public import Idealize.ShloMosaic.Lib.StableHlo.Run
public import Idealize.ShloMosaic.Lib.Pipeline.Value
public import Idealize.ShloMosaic.PureOps.Reduce

@[expose] public section

noncomputable section

namespace Cert.ReferenceIdeal.Run

open Cert.ReferenceIdeal Cert.ReferenceIdeal.Gen Cert.Argmax
open Idealize.ShloMosaic Idealize.ShloMosaic.TcCoe Idealize.ShloMosaic.StableHlo Idealize.SL.Sem Idealize.ShloMosaic.ValueIdx

/-! ## The run -/

section
variable {F : FTy → Type} [FloatOps F]

/-- The arg-max pair of every column; -/
def argPair (x : FVec F S16384x1024 .f32) : S1024.Idx → F .f32 × BitVec 32 :=
  Host.argReduce reducer_argmax_f32_i32 x (iotaInDim S16384x1024 32 0) (constant S_ .f32 0xFF800000#32) (constantI S_ 32 0#32)
    reducesTo_S16384x1024_S1024_d0 h_S_

/-- the greatest entry of every column; -/
def colMax (x : FVec F S16384x1024 .f32) : FVec F S1024 .f32 :=
  Host.reduce FloatOps.maximumf x (constant S_ .f32 0xFF800000#32) reducesTo_S16384x1024_S1024_d0 h_S_

/-- the arg-max as a float; -/
def colArg (x : FVec F S16384x1024 .f32) : FVec F S1024 .f32 := sitofp .f32 fun j => (argPair x j).2

/-- and the two as rows of the result. -/
def refOut (x : FVec F S16384x1024 .f32) : FVec F S2x1024 .f32 :=
  concatenate S2x1024 0 [⟨S1x1024, broadcastInDim S1x1024 ![1] bcast_S1024_S1x1024_1 (colMax x)⟩,
    ⟨S1x1024, broadcastInDim S1x1024 ![1] bcast_S1024_S1x1024_1 (colArg x)⟩] concatenates_S1x1024_S1x1024_S2x1024_d0

/-- The operations of the reference in order. -/
abbrev ops : List (HloOp τ sig (Elt F)) :=
  [ TRef.nullary main_call0.v0 (iotaInDim S16384x1024 32 0),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S16384x1024_S1024_d0 h_S_ j).1),
    TRef.quaternary (.of main_arg0) main_call0.v0 main_call0.cst main_call0.c main_call0.v1_1 (fun x y u v j => (Host.argReduce reducer_argmax_f32_i32 x y u v reducesTo_S16384x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 (fun x v => Host.reduce FloatOps.maximumf x v reducesTo_S16384x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5 (fun a b => concatenate S2x1024 0 [⟨S1x1024, a⟩, ⟨S1x1024, b⟩] concatenates_S1x1024_S1x1024_S2x1024_d0) ]

/-- The reference is that straight line. -/
theorem main_eq (c : Dev nD) : main (F := F) c = seq ops := rfl

/-- What the operations leave in the result buffer; -/
theorem out_eq (V : Valuation τ sig (Elt F)) : after ops V (main_v5 : DevRef τ sig) = refOut (V (main_arg0 : DevRef τ sig)) := by
  after_results
  rfl

/-- none of them writes the argument. -/
theorem arg0_eq (V : Valuation τ sig (Elt F)) : after ops V (main_arg0 : DevRef τ sig) = V (main_arg0 : DevRef τ sig) := by
  after_results

/-- The reference uses no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- From any memory with zero counters every fair execution of the reference ends, the result buffer holding `refOut` of
    the argument, the argument as it was, every counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c main_v5).trans (out_eq _), (h c main_arg0).trans (arg0_eq _)⟩,
      sem_eq_zero_of_no_sems (by decide) r.2⟩)
    (run_seq scopedRefs_eq scopedSems_eq defs main (fun _ => ops) main_eq (fun _ => ops_sub) m ρ)

end

/-! ## The value, over the extended reals -/

/-- The word of the greatest value's start is the least extended real. -/
theorem ofBits_negInf : FloatOps.ofBits (F := Ideal) .f32 0xFF800000#32 = ⊥ := by
  show Ideal.ofBits .f32 0xFF800000#32 = ⊥
  simp [Ideal.ofBits, Ideal.ieee]

/-- The reference's reducer is one step of the arg-max. -/
theorem reducer_eq (a b : Ideal .f32 × BitVec 32) : reducer_argmax_f32_i32 (F := Ideal) a b = step a b := by
  obtain ⟨v, i⟩ := a
  obtain ⟨w, j⟩ := b
  unfold reducer_argmax_f32_i32 step
  simp only [Ideal.cmpf_def, Ideal.cmp, IntOp.cmpi, IntOp.ori, IntOp.andi, Scalar.select, BitVec.slt]
  by_cases h1 : (w : EReal) < v <;> by_cases h2 : (v : EReal) = w <;> by_cases h3 : i.toInt < j.toInt <;> simp [h1, h2, h3]

theorem reduces_rows : S16384x1024.Reduces [0] S1024 := by decide

/-- The arg-max pair of column `k`: the steps down its rows. -/
theorem argPair_eq (X : FVec Ideal S16384x1024 .f32) (k : Fin 1024) :
    argPair X (ix1 k) = (List.range 16384).foldl (fun a r => step a (colOf X k r, BitVec.ofNat 32 r)) (⊥, 0#32) := by
  unfold argPair
  rw [Ideal.argReduce_eq_reduce2]
  have e : Host.reduce2 reducer_argmax_f32_i32 X (iotaInDim S16384x1024 32 0) (constant S_ .f32 0xFF800000#32) (constantI S_ 32 0#32)
      reducesTo_S16384x1024_S1024_d0 h_S_ (ix1 k)
      = reduceFold reduces_rows reducer_argmax_f32_i32 (FloatOps.ofBits (F := Ideal) .f32 0xFF800000#32, 0#32)
        (fun i => (X i, iotaInDim S16384x1024 32 0 i)) (ix1 k) := rfl
  rw [e, reduceFold_rows, ofBits_negInf]
  have e2 : List.range 16384 = (List.finRange 16384).map Fin.val := (List.map_coe_finRange_eq_range (n := 16384)).symm
  rw [e2, List.foldl_map]
  refine congrArg (fun g => List.foldl g (⊥, 0#32) (List.finRange 16384)) ?_
  funext a r
  rw [reducer_eq]
  refine congrArg (step a) (Prod.ext ?_ rfl)
  have e3 : (Shape.pair r (reduces_rows.col (ix1 k)) : S16384x1024.Idx) = ix2 r k :=
    funext fun b => match b with | ⟨0, _⟩ => rfl | ⟨1, _⟩ => rfl
  exact (congrArg X e3).trans (colOf_apply X k r).symm

/-- Column by column the result's two rows are the greatest entry and the first row that holds it. -/
theorem refOut_top (X : FVec Ideal S16384x1024 .f32) (k : Fin 1024) :
    TopR (colOf X k) (Set.Ico 0 16384) (refOut X (ix2 0 k)) (refOut X (ix2 1 k)) := by
  obtain ⟨v, i, hi, e, h⟩ := foldl_rows (f := colOf X k) 16383 (by norm_num)
  have h0 : refOut X (ix2 0 k) = colMax X (ix1 k) :=
    (concatenate_pair_apply_left (t := S2x1024) 0 _ _ concatenates_S1x1024_S1x1024_S2x1024_d0 (ix2 0 k) rfl (ix2 (0 : Fin 1) k)
      (fun b => match b with | ⟨0, _⟩ => rfl | ⟨1, _⟩ => rfl)).trans
      (broadcastInDim_apply _ _ _ _ (ix1 k) fun a => match a with | ⟨0, _⟩ => rfl)
  have h1 : refOut X (ix2 1 k) = colArg X (ix1 k) :=
    (concatenate_pair_apply_right (t := S2x1024) 0 _ _ concatenates_S1x1024_S1x1024_S2x1024_d0 (ix2 1 k) rfl rfl (ix2 (0 : Fin 1) k)
      (fun b hb => match b with | ⟨0, _⟩ => absurd rfl hb | ⟨1, _⟩ => rfl) rfl).trans
      (broadcastInDim_apply _ _ _ _ (ix1 k) fun a => match a with | ⟨0, _⟩ => rfl)
  have hmax : colMax X (ix1 k) = v := by
    unfold colMax
    rw [Host.reduce_eq_fold_single (FloatOps.maximumf (F := Ideal) (φ := .f32)) (h := reduces_rows)]
    have ex : ∀ r : Fin 16384, (X ∘ reduces_rows.lift (ix1 k)) r = colOf X k r.val := fun r => by
      rw [colOf_apply]
      exact congrArg X (funext fun b => by fin_cases b <;> rfl)
    obtain ⟨hle, r₀, hr₀⟩ := fold_max_spec (n := 16384) (X ∘ reduces_rows.lift (ix1 k)) (by norm_num)
    have hb : constant (F := Ideal) S_ .f32 0xFF800000#32 (Shape.Idx.first h_S_) = ⊥ := ofBits_negInf
    rw [hb]
    show (Finset.univ : Finset (Fin 16384)).fold max ⊥ (X ∘ reduces_rows.lift (ix1 k)) = v
    refine le_antisymm ?_ ?_
    · exact (hr₀.symm.trans (ex r₀)).trans_le (h.le _ ⟨Nat.zero_le _, r₀.isLt⟩)
    · exact (h.val.symm.trans (ex ⟨i, h.mem.2⟩).symm).trans_le (hle _)
  have harg : colArg X (ix1 k) = ((i : ℝ) : EReal) := by
    show (((argPair X (ix1 k)).2.toInt : ℝ) : EReal) = _
    rw [argPair_eq, e]
    dsimp only
    rw [toInt_ofNat_small hi, Int.cast_natCast]
  rw [h0, h1, hmax, harg]
  exact ⟨i, rfl, h⟩

end Cert.ReferenceIdeal.Run

end
-- ==== Proof.lean ====
/-
  The proof of `Cert.Claim`: the kernel, the ideal kernel and the reference run, leave their arguments unchanged and every
  semaphore at zero; and over the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelLaunch
public import proofs.«01_k».proof.Proof.IdealLaunch
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic hiding ix1 ix2 ix3
open Idealize.ShloMosaic.TcCoe
open Idealize.ShloMosaic.ValueIdx
open Idealize.SL.Sem

/-- From devices that hold the four blocks of `X`, every device's result is the reference's: both hold each column's
    greatest entry and the first row that holds it, and there is only one such pair. -/
theorem outAt_eq (m : (ℓ : Loc KernelIdeal.nD KernelIdeal.τ KernelIdeal.sig) → Buf (Elt Ideal) ℓ)
    (X : (⟨2, ![16384, 1024]⟩ : Shape).Idx → EReal)
    (hX : KernelIdeal.Run.Cut m X) (c : Dev KernelIdeal.nD) :
    KernelIdeal.Run.outAt m c = ReferenceIdeal.Run.refOut (F := Ideal) X := by
  have h (k : Fin 1024) := (KernelIdeal.Run.outAt_top m X hX c k).unique (ReferenceIdeal.Run.refOut_top X k)
  have h' (r : Fin 2) (k : Fin 1024) : KernelIdeal.Run.outAt m c (ix2 r k) = ReferenceIdeal.Run.refOut (F := Ideal) X (ix2 r k) :=
    match r with
    | ⟨0, _⟩ => (h k).1
    | ⟨1, _⟩ => (h k).2
  funext i
  rw [ValueIdx.eq_ix2 i]
  exact h' (i 0) (i 1)

/-- The three programs run, leave their arguments as they were and every semaphore at zero; and the kernel's result, over
    the extended reals, is the reference's on every device. -/
theorem claim : Cert.Claim := by
  refine ⟨Cert.Kernel.Gen.facts, Cert.KernelIdeal.Gen.facts, Cert.ReferenceIdeal.Gen.facts, ?_, ?_, ?_, trivial, ?_⟩
  · exact fun m g _ => Cert.Kernel.Run.run_frame m g
  · exact fun m g _ => Cert.KernelIdeal.Run.run_frame m g
  · exact fun m g _ => (θ_run _ _ _).mono (fun r h => ⟨fun c => (h.1 c).2, h.2⟩) (Cert.ReferenceIdeal.Run.run_main m g)
  · intro m g m' g' _ hX
    refine ⟨ReferenceIdeal.Run.refOut (F := Ideal) (m' (((0 : Dev ReferenceIdeal.nD).tc : Thread ReferenceIdeal.nD ReferenceIdeal.τ).loc
      ReferenceIdeal.main_arg0)), ?_, ?_⟩
    · exact (θ_run _ _ _).mono (fun r h c => ⟨(h c).1.trans (outAt_eq m _ hX c), (h c).2⟩) (KernelIdeal.Run.run_value m g)
    · exact (θ_run _ _ _).mono (fun r h => h.1 0) (ReferenceIdeal.Run.run_main m' g')

end Cert.Proof

end
